-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![4096, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S_ : Shape := ⟨0, ![]⟩
abbrev S1024x1 : Shape := ⟨2, ![1024, 1]⟩

class Facts : Prop where
  bcast_S_S1024x2 : S_.BroadcastsInDim S1024x2 (![] : Fin 0 → Fin S1024x2.rank)
  bcast_S_S1024x512 : S_.BroadcastsInDim S1024x512 (![] : Fin 0 → Fin S1024x512.rank)
  bcast_S_S512x16 : S_.BroadcastsInDim S512x16 (![] : Fin 0 → Fin S512x16.rank)
  slices_S1024x2_S1024x1_0_0 : S1024x2.Slices ![0, 0] S1024x1
  slices_S1024x2_S1024x1_0_1 : S1024x2.Slices ![0, 1] S1024x1

variable [Facts]

def fn {F : FTy → Type} [FloatOps F] (main_arg0 : FVec F S1024x512 .f32) (main_arg1 : FVec F S512x16 .f32) (main_arg2 : IVec S1024x2 32) (main_arg3 : FVec F S4x512x1024 .f32) : IVec S1024x512 1 × IVec S512x16 1 × IVec S1024x1 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 16#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_v5 : FVec F S1024x512 .f32 := Host.absf main_arg0
  let main_cst : FVec F S_ .f32 := constant S_ .f32 0x7F800000#32
  let main_v6 : FVec F S1024x512 .f32 := broadcastInDim S1024x512 ![] bcast_S_S1024x512 main_cst
  let main_v7 : IVec S1024x512 1 := cmpf .olt main_v5 main_v6
  let main_v8 : FVec F S512x16 .f32 := Host.absf main_arg1
  let main_cst_1 : FVec F S_ .f32 := constant S_ .f32 0x7F800000#32
  let main_v9 : FVec F S512x16 .f32 := broadcastInDim S512x16 ![] bcast_S_S512x16 main_cst_1
  let main_v10 : IVec S512x16 1 := cmpf .olt main_v8 main_v9
  let main_v11 : IVec S1024x1 1 := (extractStridedSlice S1024x1 ![0, 0] · slices_S1024x2_S1024x1_0_0) main_v4
  let main_v12 : IVec S1024x1 1 := (extractStridedSlice S1024x1 ![0, 1] · slices_S1024x2_S1024x1_0_1) main_v4
  let main_v13 : IVec S1024x1 1 := ori main_v11 main_v12
  (main_v7, main_v10, main_v13)
-- ==== Pre_finite_and_routed_ReferenceIdeal.lean ====
abbrev S4096x512 : Shape := ⟨2, ![4096, 512]⟩
abbrev S512x16 : Shape := ⟨2, ![512, 16]⟩
abbrev S4096x2 : Shape := ⟨2, ![4096, 2]⟩
abbrev S16x512x1024 : Shape := ⟨3, ![16, 512, 1024]⟩
abbrev S_ : Shape := ⟨0, ![]⟩
abbrev S4096x1 : Shape := ⟨2, ![4096, 1]⟩

class Facts : Prop where
  bcast_S_S4096x2 : S_.BroadcastsInDim S4096x2 (![] : Fin 0 → Fin S4096x2.rank)
  bcast_S_S4096x512 : S_.BroadcastsInDim S4096x512 (![] : Fin 0 → Fin S4096x512.rank)
  bcast_S_S512x16 : S_.BroadcastsInDim S512x16 (![] : Fin 0 → Fin S512x16.rank)
  slices_S4096x2_S4096x1_0_0 : S4096x2.Slices ![0, 0] S4096x1
  slices_S4096x2_S4096x1_0_1 : S4096x2.Slices ![0, 1] S4096x1

variable [Facts]

def fn {F : FTy → Type} [FloatOps F] (main_arg0 : FVec F S4096x512 .f32) (main_arg1 : FVec F S512x16 .f32) (main_arg2 : IVec S4096x2 32) (main_arg3 : FVec F S16x512x1024 .f32) : IVec S4096x512 1 × IVec S512x16 1 × IVec S4096x1 1 :=
  let main_c : IVec S_ 32 := constantI S_ 32 0#32
  let main_v0 : IVec S4096x2 32 := broadcastInDim S4096x2 ![] bcast_S_S4096x2 main_c
  let main_v1 : IVec S4096x2 1 := cmpi .sge main_arg2 main_v0
  let main_c_0 : IVec S_ 32 := constantI S_ 32 16#32
  let main_v2 : IVec S4096x2 32 := broadcastInDim S4096x2 ![] bcast_S_S4096x2 main_c_0
  let main_v3 : IVec S4096x2 1 := cmpi .slt main_arg2 main_v2
  let main_v4 : IVec S4096x2 1 := andi main_v1 main_v3
  let main_v5 : FVec F S4096x512 .f32 := Host.absf main_arg0
  let main_cst : FVec F S_ .f32 := constant S_ .f32 0x7F800000#32
  let main_v6 : FVec F S4096x512 .f32 := broadcastInDim S4096x512 ![] bcast_S_S4096x512 main_cst
  let main_v7 : IVec S4096x512 1 := cmpf .olt main_v5 main_v6
  let main_v8 : FVec F S512x16 .f32 := Host.absf main_arg1
  let main_cst_1 : FVec F S_ .f32 := constant S_ .f32 0x7F800000#32
  let main_v9 : FVec F S512x16 .f32 := broadcastInDim S512x16 ![] bcast_S_S512x16 main_cst_1
  let main_v10 : IVec S512x16 1 := cmpf .olt main_v8 main_v9
  let main_v11 : IVec S4096x1 1 := (extractStridedSlice S4096x1 ![0, 0] · slices_S4096x2_S4096x1_0_0) main_v4
  let main_v12 : IVec S4096x1 1 := (extractStridedSlice S4096x1 ![0, 1] · slices_S4096x2_S4096x1_0_1) main_v4
  let main_v13 : IVec S4096x1 1 := ori main_v11 main_v12
  (main_v7, main_v10, main_v13)
-- ==== Kernel.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S1024x1024 : Shape := ⟨2, ![1024, 1024]⟩
abbrev S4x512x512 : Shape := ⟨3, ![4, 512, 512]⟩
abbrev S4x512x16 : Shape := ⟨3, ![4, 512, 16]⟩
abbrev S3x512x1024 : Shape := ⟨3, ![3, 512, 1024]⟩
abbrev S3 : Shape := ⟨1, ![3]⟩
abbrev S_ : Shape := ⟨0, ![]⟩
abbrev S1024x16 : Shape := ⟨2, ![1024, 16]⟩
abbrev S1024 : Shape := ⟨1, ![1024]⟩
abbrev S1024x1 : Shape := ⟨2, ![1024, 1]⟩
abbrev S512x512 : Shape := ⟨2, ![512, 512]⟩
abbrev S1x512x512 : Shape := ⟨3, ![1, 512, 512]⟩
abbrev S1x512x16 : Shape := ⟨3, ![1, 512, 16]⟩
abbrev S1 : Shape := ⟨1, ![1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩

abbrev nBuf : Space → Nat
  | .hbm => 5
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x2, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S512x16, .f32⟩
  | .local _ .vmem, ⟨2, _⟩ => ⟨S1024x2, .i32⟩
  | .local _ .vmem, ⟨3, _⟩ => ⟨S4x512x1024, .f32⟩
  | .local _ .vmem, ⟨4, _⟩ => ⟨S1024x1024, .f32⟩
  | .local _ .vmem, ⟨5, _⟩ => ⟨S4x512x512, .bf16⟩
  | .local _ .vmem, ⟨6, _⟩ => ⟨S4x512x16, .f32⟩
  | .local _ .vmem, ⟨7, _⟩ => ⟨S4x512x512, .bf16⟩
  | .local _ .vmem, ⟨8, _⟩ => ⟨S4x512x16, .f32⟩
  | .local _ .vmem, ⟨9, _⟩ => ⟨S4x512x1024, .bf16⟩
  | .local _ .vmem, ⟨10, _⟩ => ⟨S3x512x1024, .bf16⟩
  | .local _ .vmem, ⟨11, _⟩ => ⟨S3x512x1024, .bf16⟩
  | .local _ .vmem, ⟨12, _⟩ => ⟨S3x512x1024, .bf16⟩
  | .local _ .vmem, ⟨13, _⟩ => ⟨S3x512x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_47 : BitVec 32 := 1#32
  let v78 : BitVec 32 := Scalar.muli v4 c1_i32_47
  let v79 : BitVec 32 := Scalar.addi c0_i32_48 v78
  v79.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_57 : BitVec 32 := 1#32
  let v88 : BitVec 32 := Scalar.muli v4 c1_i32_57
  let v89 : BitVec 32 := Scalar.addi c0_i32_58 v88
  v89.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_67 : BitVec 32 := 1#32
  let v98 : BitVec 32 := Scalar.muli v7 c1_i32_67
  let v99 : BitVec 32 := Scalar.addi c0_i32_68 v98
  v99.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_77 : BitVec 32 := 1#32
  let v108 : BitVec 32 := Scalar.muli v7 c1_i32_77
  let v109 : BitVec 32 := Scalar.addi c0_i32_78 v108
  v109.toNat
def k0_dev7 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_198 : BitVec 32 := 1#32
  let v272 : BitVec 32 := Scalar.muli v4 c1_i32_198
  let v273 : BitVec 32 := Scalar.addi c0_i32_199 v272
  v273.toNat
def k0_dev8 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_208 : BitVec 32 := 1#32
  let v282 : BitVec 32 := Scalar.muli v4 c1_i32_208
  let v283 : BitVec 32 := Scalar.addi c0_i32_209 v282
  v283.toNat
def k0_dev9 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_259 : BitVec 32 := 1#32
  let v359 : BitVec 32 := Scalar.muli v4 c1_i32_259
  let v360 : BitVec 32 := Scalar.addi c0_i32_260 v359
  v360.toNat
def k0_dev10 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_307 : BitVec 32 := 1#32
  let v397 : BitVec 32 := Scalar.muli v7 c1_i32_307
  let v398 : BitVec 32 := Scalar.addi c0_i32_308 v397
  v398.toNat
def k0_dev11 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_317 : BitVec 32 := 1#32
  let v407 : BitVec 32 := Scalar.muli v7 c1_i32_317
  let v408 : BitVec 32 := Scalar.addi c0_i32_318 v407
  v408.toNat
def k0_dev12 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_368 : BitVec 32 := 1#32
  let v484 : BitVec 32 := Scalar.muli v7 c1_i32_368
  let v485 : BitVec 32 := Scalar.addi c0_i32_369 v484
  v485.toNat
def k0_dev13 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_416 : BitVec 32 := 1#32
  let v522 : BitVec 32 := Scalar.muli v4 c1_i32_416
  let v523 : BitVec 32 := Scalar.addi c0_i32_417 v522
  v523.toNat
def k0_dev14 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_426 : BitVec 32 := 1#32
  let v532 : BitVec 32 := Scalar.muli v4 c1_i32_426
  let v533 : BitVec 32 := Scalar.addi c0_i32_427 v532
  v533.toNat
def k0_dev15 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_499 : BitVec 32 := 1#32
  let v627 : BitVec 32 := Scalar.muli v4 c1_i32_499
  let v628 : BitVec 32 := Scalar.addi c0_i32_500 v627
  v628.toNat
def k0_dev16 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_547 : BitVec 32 := 1#32
  let v665 : BitVec 32 := Scalar.muli v7 c1_i32_547
  let v666 : BitVec 32 := Scalar.addi c0_i32_548 v665
  v666.toNat
def k0_dev17 (d0 : Dev nD) : Nat :=
  let c0_i32_558 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_557 : BitVec 32 := 1#32
  let v675 : BitVec 32 := Scalar.muli v7 c1_i32_557
  let v676 : BitVec 32 := Scalar.addi c0_i32_558 v675
  v676.toNat
def k0_dev18 (d0 : Dev nD) : Nat :=
  let c0_i32_631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_630 : BitVec 32 := 1#32
  let v770 : BitVec 32 := Scalar.muli v7 c1_i32_630
  let v771 : BitVec 32 := Scalar.addi c0_i32_631 v770
  v771.toNat
def k0_dev19 (d0 : Dev nD) : Nat :=
  let c0_i32_742 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_741 : BitVec 32 := 1#32
  let v893 : BitVec 32 := Scalar.muli v4 c1_i32_741
  let v894 : BitVec 32 := Scalar.addi c0_i32_742 v893
  v894.toNat
def k0_dev20 (d0 : Dev nD) : Nat :=
  let c0_i32_853 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_852 : BitVec 32 := 1#32
  let v1016 : BitVec 32 := Scalar.muli v7 c1_i32_852
  let v1017 : BitVec 32 := Scalar.addi c0_i32_853 v1016
  v1017.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x512 : Shape := ⟨2, ![4096, 512]⟩
abbrev S512x16 : Shape := ⟨2, ![512, 16]⟩
abbrev S4096x2 : Shape := ⟨2, ![4096, 2]⟩
abbrev S16x512x1024 : Shape := ⟨3, ![16, 512, 1024]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x16x1024 : Shape := ⟨3, ![4096, 16, 1024]⟩
abbrev S1x16 : Shape := ⟨2, ![1, 16]⟩
abbrev S4096x1024 : Shape := ⟨2, ![4096, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x16, .f32⟩
  | .hbm, ⟨2, _⟩ => ⟨S4096x2, .i32⟩
  | .hbm, ⟨3, _⟩ => ⟨S16x512x1024, .f32⟩
  | .hbm, ⟨4, _⟩ => ⟨S4096x16, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x16, .f32⟩
  | .hbm, ⟨15, _⟩ => ⟨S4096x16, .f32⟩
  | .hbm, ⟨16, _⟩ => ⟨S4096x16x1024, .f32⟩
  | .hbm, ⟨17, _⟩ => ⟨S4096x1, .i32⟩
  | .hbm, ⟨18, _⟩ => ⟨S4096, .i32⟩
  | .hbm, ⟨19, _⟩ => ⟨S4096x1, .i32⟩
  | .hbm, ⟨20, _⟩ => ⟨S1x16, .i32⟩
  | .hbm, ⟨21, _⟩ => ⟨S4096x16, .i32⟩
  | .hbm, ⟨22, _⟩ => ⟨S4096x16, .i32⟩
  | .hbm, ⟨23, _⟩ => ⟨S4096x16, .i1⟩
  | .hbm, ⟨24, _⟩ => ⟨S4096x16, .f32⟩
  | .hbm, ⟨25, _⟩ => ⟨S4096x1, .i32⟩
  | .hbm, ⟨26, _⟩ => ⟨S4096, .i32⟩
  | .hbm, ⟨27, _⟩ => ⟨S4096x1, .i32⟩
  | .hbm, ⟨28, _⟩ => ⟨S1x16, .i32⟩
  | .hbm, ⟨29, _⟩ => ⟨S4096x16, .i32⟩
  | .hbm, ⟨30, _⟩ => ⟨S4096x16, .i32⟩
  | .hbm, ⟨31, _⟩ => ⟨S4096x16, .i1⟩
  | .hbm, ⟨32, _⟩ => ⟨S4096x16, .f32⟩
  | .hbm, ⟨33, _⟩ => ⟨S4096x16, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x16, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.Base.lean ====
/-
# The ring's eighteen transfers: slots, semaphores, schedule

Every device sends eighteen blocks, nine to each ring neighbour, in one fixed order, and waits for them in that same
order. A transfer `t : Fin 18` has a send semaphore, a receive semaphore, a source slot of the sender and a slot of the
receiver. This module names them, says which resources travel with each semaphore's units, and gives each device's
bookkeeping as three bundles indexed by how many transfers it has issued and waited for.
-/

module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the round schedule. -/
abbrev UB : Type := URounds (GSem nD τ sig) Bool
/-- The pipeline's ghost state and the schedule's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Sums of resources -/

section Sums
variable {I : Type}

omit [FloatOps F] in
/-- A family over a set with one more element. -/
theorem big_cons [DecidableEq I] {s : Finset I} {i : I} (h : i ∉ s) (Φ : I → sProp 𝕄) : bigSep (insert i s) Φ = iprop(Φ i ∗ bigSep s Φ) := BI.bigSep_insert h
omit [FloatOps F] in
/-- A family over a set by a property of its elements. -/
theorem big_split [DecidableEq I] (s : Finset I) (p : I → Prop) [DecidablePred p] (Φ : I → sProp 𝕄) :
    bigSep s Φ = iprop(bigSep (s.filter p) Φ ∗ bigSep (s.filter fun i => ¬ p i) Φ) := BI.bigSep_filter_split s p
omit [FloatOps F] in
/-- One of a family. -/
theorem big_elim [DecidableEq I] {s : Finset I} {i : I} (h : i ∈ s) (Φ : I → sProp 𝕄) : (bigSep s Φ : sProp 𝕄) ⊢ Φ i := BI.bigSep_elim h

end Sums

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
/-- The ring as a permutation of the devices. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = prv c := Fin.ext (k0_dev10_eq c)
theorem dev11_eq (c : Dev nD) : (⟨k0_dev11 c, k0_dev11_lt c⟩ : Dev nD) = prv c := Fin.ext (k0_dev11_eq c)
theorem dev12_eq (c : Dev nD) : (⟨k0_dev12 c, k0_dev12_lt c⟩ : Dev nD) = prv c := Fin.ext (k0_dev12_eq c)
theorem dev13_eq (c : Dev nD) : (⟨k0_dev13 c, k0_dev13_lt c⟩ : Dev nD) = nxt c := Fin.ext (k0_dev13_eq c)
theorem dev14_eq (c : Dev nD) : (⟨k0_dev14 c, k0_dev14_lt c⟩ : Dev nD) = nxt c := Fin.ext (k0_dev14_eq c)
theorem dev15_eq (c : Dev nD) : (⟨k0_dev15 c, k0_dev15_lt c⟩ : Dev nD) = nxt c := Fin.ext (k0_dev15_eq c)
theorem dev16_eq (c : Dev nD) : (⟨k0_dev16 c, k0_dev16_lt c⟩ : Dev nD) = prv c := Fin.ext (k0_dev16_eq c)
theorem dev17_eq (c : Dev nD) : (⟨k0_dev17 c, k0_dev17_lt c⟩ : Dev nD) = prv c := Fin.ext (k0_dev17_eq c)
theorem dev18_eq (c : Dev nD) : (⟨k0_dev18 c, k0_dev18_lt c⟩ : Dev nD) = prv c := Fin.ext (k0_dev18_eq c)
theorem dev19_eq (c : Dev nD) : (⟨k0_dev19 c, k0_dev19_lt c⟩ : Dev nD) = nxt c := Fin.ext (k0_dev19_eq c)
theorem dev20_eq (c : Dev nD) : (⟨k0_dev20 c, k0_dev20_lt c⟩ : Dev nD) = prv c := Fin.ext (k0_dev20_eq c)

/-! ## Slots

A gathered buffer has four slots along its first axis, a reduce-scatter buffer three. -/

abbrev xR0 : Memref sig .tc .vmem S1x512x512 .bf16 := (Memref.whole cc0_scratch0).slice (Rect.unit (s := S4x512x512) ![0, 0, 0] S1x512x512.size inb_S4x512x512_S1x512x512_0_0_0) (fun _ => rfl)
abbrev xR1 : Memref sig .tc .vmem S1x512x512 .bf16 := (Memref.whole cc0_scratch0).slice (Rect.unit (s := S4x512x512) ![1, 0, 0] S1x512x512.size inb_S4x512x512_S1x512x512_1_0_0) (fun _ => rfl)
abbrev xR2 : Memref sig .tc .vmem S1x512x512 .bf16 := (Memref.whole cc0_scratch0).slice (Rect.unit (s := S4x512x512) ![2, 0, 0] S1x512x512.size inb_S4x512x512_S1x512x512_2_0_0) (fun _ => rfl)
abbrev xR3 : Memref sig .tc .vmem S1x512x512 .bf16 := (Memref.whole cc0_scratch0).slice (Rect.unit (s := S4x512x512) ![3, 0, 0] S1x512x512.size inb_S4x512x512_S1x512x512_3_0_0) (fun _ => rfl)
abbrev wR0 : Memref sig .tc .vmem S1x512x16 .f32 := (Memref.whole cc0_scratch1).slice (Rect.unit (s := S4x512x16) ![0, 0, 0] S1x512x16.size inb_S4x512x16_S1x512x16_0_0_0) (fun _ => rfl)
abbrev wR1 : Memref sig .tc .vmem S1x512x16 .f32 := (Memref.whole cc0_scratch1).slice (Rect.unit (s := S4x512x16) ![1, 0, 0] S1x512x16.size inb_S4x512x16_S1x512x16_1_0_0) (fun _ => rfl)
abbrev wR2 : Memref sig .tc .vmem S1x512x16 .f32 := (Memref.whole cc0_scratch1).slice (Rect.unit (s := S4x512x16) ![2, 0, 0] S1x512x16.size inb_S4x512x16_S1x512x16_2_0_0) (fun _ => rfl)
abbrev wR3 : Memref sig .tc .vmem S1x512x16 .f32 := (Memref.whole cc0_scratch1).slice (Rect.unit (s := S4x512x16) ![3, 0, 0] S1x512x16.size inb_S4x512x16_S1x512x16_3_0_0) (fun _ => rfl)
abbrev xL0 : Memref sig .tc .vmem S1x512x512 .bf16 := (Memref.whole cc0_scratch2).slice (Rect.unit (s := S4x512x512) ![0, 0, 0] S1x512x512.size inb_S4x512x512_S1x512x512_0_0_0) (fun _ => rfl)
abbrev xL1 : Memref sig .tc .vmem S1x512x512 .bf16 := (Memref.whole cc0_scratch2).slice (Rect.unit (s := S4x512x512) ![1, 0, 0] S1x512x512.size inb_S4x512x512_S1x512x512_1_0_0) (fun _ => rfl)
abbrev xL2 : Memref sig .tc .vmem S1x512x512 .bf16 := (Memref.whole cc0_scratch2).slice (Rect.unit (s := S4x512x512) ![2, 0, 0] S1x512x512.size inb_S4x512x512_S1x512x512_2_0_0) (fun _ => rfl)
abbrev xL3 : Memref sig .tc .vmem S1x512x512 .bf16 := (Memref.whole cc0_scratch2).slice (Rect.unit (s := S4x512x512) ![3, 0, 0] S1x512x512.size inb_S4x512x512_S1x512x512_3_0_0) (fun _ => rfl)
abbrev wL0 : Memref sig .tc .vmem S1x512x16 .f32 := (Memref.whole cc0_scratch3).slice (Rect.unit (s := S4x512x16) ![0, 0, 0] S1x512x16.size inb_S4x512x16_S1x512x16_0_0_0) (fun _ => rfl)
abbrev wL1 : Memref sig .tc .vmem S1x512x16 .f32 := (Memref.whole cc0_scratch3).slice (Rect.unit (s := S4x512x16) ![1, 0, 0] S1x512x16.size inb_S4x512x16_S1x512x16_1_0_0) (fun _ => rfl)
abbrev wL2 : Memref sig .tc .vmem S1x512x16 .f32 := (Memref.whole cc0_scratch3).slice (Rect.unit (s := S4x512x16) ![2, 0, 0] S1x512x16.size inb_S4x512x16_S1x512x16_2_0_0) (fun _ => rfl)
abbrev wL3 : Memref sig .tc .vmem S1x512x16 .f32 := (Memref.whole cc0_scratch3).slice (Rect.unit (s := S4x512x16) ![3, 0, 0] S1x512x16.size inb_S4x512x16_S1x512x16_3_0_0) (fun _ => rfl)
abbrev sR0 : Memref sig .tc .vmem S1x512x1024 .bf16 := (Memref.whole cc0_scratch5).slice (Rect.unit (s := S3x512x1024) ![0, 0, 0] S1x512x1024.size inb_S3x512x1024_S1x512x1024_0_0_0) (fun _ => rfl)
abbrev sR1 : Memref sig .tc .vmem S1x512x1024 .bf16 := (Memref.whole cc0_scratch5).slice (Rect.unit (s := S3x512x1024) ![1, 0, 0] S1x512x1024.size inb_S3x512x1024_S1x512x1024_1_0_0) (fun _ => rfl)
abbrev sR2 : Memref sig .tc .vmem S1x512x1024 .bf16 := (Memref.whole cc0_scratch5).slice (Rect.unit (s := S3x512x1024) ![2, 0, 0] S1x512x1024.size inb_S3x512x1024_S1x512x1024_2_0_0) (fun _ => rfl)
abbrev rR0 : Memref sig .tc .vmem S1x512x1024 .bf16 := (Memref.whole cc0_scratch6).slice (Rect.unit (s := S3x512x1024) ![0, 0, 0] S1x512x1024.size inb_S3x512x1024_S1x512x1024_0_0_0) (fun _ => rfl)
abbrev rR1 : Memref sig .tc .vmem S1x512x1024 .bf16 := (Memref.whole cc0_scratch6).slice (Rect.unit (s := S3x512x1024) ![1, 0, 0] S1x512x1024.size inb_S3x512x1024_S1x512x1024_1_0_0) (fun _ => rfl)
abbrev rR2 : Memref sig .tc .vmem S1x512x1024 .bf16 := (Memref.whole cc0_scratch6).slice (Rect.unit (s := S3x512x1024) ![2, 0, 0] S1x512x1024.size inb_S3x512x1024_S1x512x1024_2_0_0) (fun _ => rfl)
abbrev sL0 : Memref sig .tc .vmem S1x512x1024 .bf16 := (Memref.whole cc0_scratch7).slice (Rect.unit (s := S3x512x1024) ![0, 0, 0] S1x512x1024.size inb_S3x512x1024_S1x512x1024_0_0_0) (fun _ => rfl)
abbrev sL1 : Memref sig .tc .vmem S1x512x1024 .bf16 := (Memref.whole cc0_scratch7).slice (Rect.unit (s := S3x512x1024) ![1, 0, 0] S1x512x1024.size inb_S3x512x1024_S1x512x1024_1_0_0) (fun _ => rfl)
abbrev sL2 : Memref sig .tc .vmem S1x512x1024 .bf16 := (Memref.whole cc0_scratch7).slice (Rect.unit (s := S3x512x1024) ![2, 0, 0] S1x512x1024.size inb_S3x512x1024_S1x512x1024_2_0_0) (fun _ => rfl)
abbrev rL0 : Memref sig .tc .vmem S1x512x1024 .bf16 := (Memref.whole cc0_scratch8).slice (Rect.unit (s := S3x512x1024) ![0, 0, 0] S1x512x1024.size inb_S3x512x1024_S1x512x1024_0_0_0) (fun _ => rfl)
abbrev rL1 : Memref sig .tc .vmem S1x512x1024 .bf16 := (Memref.whole cc0_scratch8).slice (Rect.unit (s := S3x512x1024) ![1, 0, 0] S1x512x1024.size inb_S3x512x1024_S1x512x1024_1_0_0) (fun _ => rfl)
abbrev rL2 : Memref sig .tc .vmem S1x512x1024 .bf16 := (Memref.whole cc0_scratch8).slice (Rect.unit (s := S3x512x1024) ![2, 0, 0] S1x512x1024.size inb_S3x512x1024_S1x512x1024_2_0_0) (fun _ => rfl)

/-! ## Transfers -/

/-- The send semaphore of a transfer. -/
abbrev sS : Fin 18 → DmaSem sig := ![5, 11, 17, 23, 6, 12, 29, 18, 24, 35, 7, 13, 30, 19, 25, 36, 31, 37]
/-- Its receive semaphore. -/
abbrev vS : Fin 18 → DmaSem sig := ![8, 14, 20, 26, 9, 15, 32, 21, 27, 38, 10, 16, 33, 22, 28, 39, 34, 40]
abbrev sCell (t : Fin 18) (c : Dev nD) : GSem nD τ sig := ((c : Thread nD τ), .dma (sS t))
abbrev vCell (t : Fin 18) (c : Dev nD) : GSem nD τ sig := ((c : Thread nD τ), .dma (vS t))
/-- The barrier semaphore every device signals to both neighbours before the first transfer. -/
abbrev barS : Sem sig := (SemArray.scalar (sig.barrier 0 rfl) : Sems sig S_).sem
abbrev barCell (c : Dev nD) : GSem nD τ sig := ((c : Thread nD τ), .reg barS)

/-- Whether a transfer goes right. -/
abbrev goesR : Fin 18 → Bool := ![true, true, false, false, true, true, true, false, false, false, true, true, true, false, false, false, true, false]
/-- The device a transfer goes to, -/
def tgt (t : Fin 18) (c : Dev nD) : Dev nD := if goesR t then nxt c else prv c
/-- and the one it comes from. -/
def frm (t : Fin 18) (c : Dev nD) : Dev nD := if goesR t then prv c else nxt c
theorem tgt_frm (t : Fin 18) (c : Dev nD) : tgt t (frm t c) = c := by
  unfold tgt frm; split
  · exact nxt_prv c
  · exact prv_nxt c
theorem frm_tgt (t : Fin 18) (c : Dev nD) : frm t (tgt t c) = c := by
  unfold tgt frm; split
  · exact prv_nxt c
  · exact nxt_prv c

/-- A block's credit: of the tokens, of the gates, of the partial sums. -/
abbrev Nx : ℕ := (xR0.squeeze S512x512 squeezes_S1x512x512_S512x512).view.dmaCredit
abbrev Nw : ℕ := (wR0.squeeze S512x16 squeezes_S1x512x16_S512x16).view.dmaCredit
abbrev Ns : ℕ := (sR0.squeeze S512x1024 squeezes_S1x512x1024_S512x1024).view.dmaCredit
theorem Nx_pos : 0 < Nx := View.dmaCredit_pos _ (by decide)
theorem Nw_pos : 0 < Nw := View.dmaCredit_pos _ (by decide)
theorem Ns_pos : 0 < Ns := View.dmaCredit_pos _ (by decide)
/-- A transfer's credit. -/
def N (t : Fin 18) : ℕ := (![Nx, Nw, Nx, Nw, Nx, Nw, Ns, Nx, Nw, Ns, Nx, Nw, Ns, Nx, Nw, Ns, Ns, Ns] : Fin 18 → ℕ) t
theorem N_pos (t : Fin 18) : 0 < N t := by
  fin_cases t <;> first | exact Nx_pos | exact Nw_pos | exact Ns_pos

/-- A transfer semaphore's side (send: `true`) and transfer. -/
def role (q : DmaSem sig) : Option (Bool × Fin 18) :=
  match (List.finRange 18).find? (fun t => sS t == q) with
  | some t => some (true, t)
  | none => match (List.finRange 18).find? (fun t => vS t == q) with
    | some t => some (false, t)
    | none => none
theorem role_s (t : Fin 18) : role (sS t) = some (true, t) := by revert t; decide
theorem role_v (t : Fin 18) : role (vS t) = some (false, t) := by revert t; decide
/-- A semaphore by side and transfer. -/
abbrev osem (bt : Bool × Fin 18) : SemLoc sig := .dma (if bt.1 then sS bt.2 else vS bt.2)

/-! ## What the blocks hold -/

/-- The blocks each device puts on the two rings: its two halves of the tokens and of the gates, and its three partial sums each way. -/
structure Vals (F : FTy → Type) where
  xr : Dev nD → Vec F S1x512x512 .bf16
  wr : Dev nD → Vec F S1x512x16 .f32
  xl : Dev nD → Vec F S1x512x512 .bf16
  wl : Dev nD → Vec F S1x512x16 .f32
  sr : Fin 3 → Dev nD → Vec F S1x512x1024 .bf16
  sl : Fin 3 → Dev nD → Vec F S1x512x1024 .bf16

/-- The device `h` places to the left. -/
def back : ℕ → Dev nD → Dev nD
  | 0, c => c
  | h + 1, c => back h (prv c)
/-- The device `h` places to the right. -/
def fore : ℕ → Dev nD → Dev nD
  | 0, c => c
  | h + 1, c => fore h (nxt c)

abbrev hL : PosShare TreeShare := fullShare.left
abbrev hR : PosShare TreeShare := fullShare.right

/-- Device `c` holds a share of a slot that reads `v`. -/
abbrev has {s : Shape} {e : EltTy} (c : Dev nD) (A : Memref sig .tc .vmem s e) (q : PosShare TreeShare) (v : s.Idx → Elt F e) : sProp 𝕄 :=
  owns (Ix := Unit) (Name := ℕ) (U := UU) (Lvl := ℕ) (Val := Elt F) (c : Thread nD τ) A q v
/-- Device `c` holds a slot whole, whatever it reads. -/
def free {s : Shape} {e : EltTy} (c : Dev nD) (A : Memref sig .tc .vmem s e) : sProp 𝕄 := iprop(∃ v, has (F := F) c A fullShare v)

omit [FloatOps F] in
instance free_storable {s : Shape} {e : EltTy} (c : Dev nD) (A : Memref sig .tc .vmem s e) : BI.Storable (upEmb : UEmb _ 𝕄) (free (F := F) c A) := by
  unfold free; infer_instance

variable (V : Vals F)

/-- What comes back to the sender with transfer `t`'s send semaphore. -/
def sendPay (t : Fin 18) (c : Dev nD) : sProp 𝕄 := match t.val with
  | 0 => has c xR0 hL (V.xr (back 0 c))
  | 1 => has c wR0 hL (V.wr (back 0 c))
  | 2 => has c xL0 hL (V.xl (fore 0 c))
  | 3 => has c wL0 hL (V.wl (fore 0 c))
  | 4 => has c xR1 hL (V.xr (back 1 c))
  | 5 => has c wR1 hL (V.wr (back 1 c))
  | 6 => has c sR0 fullShare (V.sr 0 c)
  | 7 => has c xL1 hL (V.xl (fore 1 c))
  | 8 => has c wL1 hL (V.wl (fore 1 c))
  | 9 => has c sL0 fullShare (V.sl 0 c)
  | 10 => has c xR2 hL (V.xr (back 2 c))
  | 11 => has c wR2 hL (V.wr (back 2 c))
  | 12 => has c sR1 fullShare (V.sr 1 c)
  | 13 => has c xL2 hL (V.xl (fore 2 c))
  | 14 => has c wL2 hL (V.wl (fore 2 c))
  | 15 => has c sL1 fullShare (V.sl 1 c)
  | 16 => has c sR2 fullShare (V.sr 2 c)
  | 17 => has c sL2 fullShare (V.sl 2 c)
  | _ => iprop(emp)
/-- What the receiver gets with transfer `t`'s receive semaphore. -/
def recvPay (t : Fin 18) (c : Dev nD) : sProp 𝕄 := match t.val with
  | 0 => has c xR1 fullShare (V.xr (back 0 (prv c)))
  | 1 => has c wR1 fullShare (V.wr (back 0 (prv c)))
  | 2 => has c xL1 fullShare (V.xl (fore 0 (nxt c)))
  | 3 => has c wL1 fullShare (V.wl (fore 0 (nxt c)))
  | 4 => has c xR2 fullShare (V.xr (back 1 (prv c)))
  | 5 => has c wR2 fullShare (V.wr (back 1 (prv c)))
  | 6 => has c rR0 fullShare (V.sr 0 (prv c))
  | 7 => has c xL2 fullShare (V.xl (fore 1 (nxt c)))
  | 8 => has c wL2 fullShare (V.wl (fore 1 (nxt c)))
  | 9 => has c rL0 fullShare (V.sl 0 (nxt c))
  | 10 => has c xR3 fullShare (V.xr (back 2 (prv c)))
  | 11 => has c wR3 fullShare (V.wr (back 2 (prv c)))
  | 12 => has c rR1 fullShare (V.sr 1 (prv c))
  | 13 => has c xL3 fullShare (V.xl (fore 2 (nxt c)))
  | 14 => has c wL3 fullShare (V.wl (fore 2 (nxt c)))
  | 15 => has c rL1 fullShare (V.sl 1 (nxt c))
  | 16 => has c rR2 fullShare (V.sr 2 (prv c))
  | 17 => has c rL2 fullShare (V.sl 2 (nxt c))
  | _ => iprop(emp)
/-- The slot transfer `t` lands in, free. -/
def dstFree (t : Fin 18) (c : Dev nD) : sProp 𝕄 := match t.val with
  | 0 => free c xR1
  | 1 => free c wR1
  | 2 => free c xL1
  | 3 => free c wL1
  | 4 => free c xR2
  | 5 => free c wR2
  | 6 => free c rR0
  | 7 => free c xL2
  | 8 => free c wL2
  | 9 => free c rL0
  | 10 => free c xR3
  | 11 => free c wR3
  | 12 => free c rR1
  | 13 => free c xL3
  | 14 => free c wL3
  | 15 => free c rL1
  | 16 => free c rR2
  | 17 => free c rL2
  | _ => iprop(emp)
omit [FloatOps F] in
instance sendPay_storable (t : Fin 18) (c : Dev nD) : BI.Storable (upEmb : UEmb _ 𝕄) (sendPay V t c) := by
  unfold sendPay; split <;> infer_instance
omit [FloatOps F] in
instance recvPay_storable (t : Fin 18) (c : Dev nD) : BI.Storable (upEmb : UEmb _ 𝕄) (recvPay V t c) := by
  unfold recvPay; split <;> infer_instance
omit [FloatOps F] in
instance dstFree_storable (t : Fin 18) (c : Dev nD) : BI.Storable (upEmb : UEmb _ 𝕄) (dstFree (F := F) t c) := by
  unfold dstFree; split <;> infer_instance

/-- The transfers going right, going left. -/
abbrev rights : Finset (Fin 18) := Finset.univ.filter fun t => goesR t = true
abbrev lefts : Finset (Fin 18) := Finset.univ.filter fun t => ¬ goesR t = true

/-- What a neighbour's barrier signal carries: from the right neighbour the slots right-going transfers land in, from the
    left neighbour those left-going ones land in. -/
def barPay (b : Bool) (c : Dev nD) : sProp 𝕄 :=
  if b then bigSep rights fun t => dstFree (F := F) t (nxt c) else bigSep lefts fun t => dstFree (F := F) t (prv c)
omit [FloatOps F] in
instance barPay_storable (b : Bool) (c : Dev nD) : BI.Storable (upEmb : UEmb _ 𝕄) (barPay (F := F) b c) := by
  unfold barPay; split <;> infer_instance

/-- The schedule: one round per cell. The barrier cell's two units come from the two neighbours; every transfer cell's
    units come at once. -/
def sched : Rounds.Schedule (GSem nD τ sig) Bool 𝕄 where
  duties g r := if r = 0 ∧ g.1.2 = .tc then (match g.2 with
    | .reg s => if s = barS then Finset.univ else ∅
    | .dma q => if (role q).isSome then {false} else ∅) else ∅
  unitless _ := False
  amount g _ _ := match g.2 with
    | .reg _ => 1
    | .dma q => match role q with
      | some (_, t) => N t
      | none => 1
  payload g _ d := match g.2 with
    | .reg _ => barPay d g.1.1
    | .dma q => match role q with
      | some (true, t) => sendPay V t g.1.1
      | some (false, t) => recvPay V t g.1.1
      | none => iprop(emp)
  amount_pos g _ _ _ := by
    split
    · exact Nat.one_pos
    · split
      · exact N_pos _
      · exact Nat.one_pos

omit [FloatOps F] in
instance sched_storable (g : GSem nD τ sig) (r : ℕ) (d : Bool) : BI.Storable (upEmb : UEmb _ 𝕄) ((sched V).payload g r d) := by
  dsimp only [sched]
  split
  · infer_instance
  · split <;> infer_instance

section Sched
variable (c : Dev nD) (t : Fin 18)

omit [FloatOps F] in
theorem duties_bar : (sched V).duties (barCell c) 0 = Finset.univ := by dsimp only [sched]; rw [if_pos ⟨rfl, rfl⟩, if_pos rfl]
omit [FloatOps F] in
theorem duties_s : (sched V).duties (sCell t c) 0 = {false} := by
  dsimp only [sched]; rw [if_pos ⟨rfl, rfl⟩, role_s, Option.isSome_some]; exact if_pos rfl
omit [FloatOps F] in
theorem duties_v : (sched V).duties (vCell t c) 0 = {false} := by
  dsimp only [sched]; rw [if_pos ⟨rfl, rfl⟩, role_v, Option.isSome_some]; exact if_pos rfl
omit [FloatOps F] in
theorem duties_later (g : GSem nD τ sig) : ∀ r, 1 ≤ r → (sched V).duties g r = ∅ :=
  fun r hr => by dsimp only [sched]; exact if_neg fun h => by omega
omit [FloatOps F] in
theorem amount_s (d : Bool) : (sched V).amount (sCell t c) 0 d = N t := by dsimp only [sched]; rw [role_s]
omit [FloatOps F] in
theorem amount_v (d : Bool) : (sched V).amount (vCell t c) 0 d = N t := by dsimp only [sched]; rw [role_v]
omit [FloatOps F] in
theorem payload_s (d : Bool) : (sched V).payload (sCell t c) 0 d = sendPay V t c := by dsimp only [sched]; rw [role_s]
omit [FloatOps F] in
theorem payload_v (d : Bool) : (sched V).payload (vCell t c) 0 d = recvPay V t c := by dsimp only [sched]; rw [role_v]
omit [FloatOps F] in
theorem expect_bar : (sched V).expect (barCell c) 0 = 2 := by
  unfold Schedule.expect Schedule.amountOf
  rw [duties_bar]; rfl
omit [FloatOps F] in
theorem expect_s : (sched V).expect (sCell t c) 0 = N t := by
  unfold Schedule.expect Schedule.amountOf; rw [duties_s, Finset.sum_singleton, amount_s]
omit [FloatOps F] in
theorem expect_v : (sched V).expect (vCell t c) 0 = N t := by
  unfold Schedule.expect Schedule.amountOf; rw [duties_v, Finset.sum_singleton, amount_v]
omit [FloatOps F] in
theorem rest_bar : bigSep ((sched V).duties (barCell c) 0 \ ∅) (fun d => (sched V).payload (barCell c) 0 d)
    = iprop((bigSep lefts fun t => dstFree (F := F) t (prv c)) ∗ bigSep rights fun t => dstFree (F := F) t (nxt c)) := by
  rw [Finset.sdiff_empty, duties_bar, bigSep_univ_eq_bigSepL [false, true] (by decide) (by decide), bigSepL_cons_cons, bigSepL_singleton]
  rfl
omit [FloatOps F] in
theorem rest_s : bigSep ((sched V).duties (sCell t c) 0 \ ∅) (fun d => (sched V).payload (sCell t c) 0 d) = sendPay V t c := by
  rw [Finset.sdiff_empty, duties_s, bigSep_singleton, payload_s]
omit [FloatOps F] in
theorem rest_v : bigSep ((sched V).duties (vCell t c) 0 \ ∅) (fun d => (sched V).payload (vCell t c) 0 d) = recvPay V t c := by
  rw [Finset.sdiff_empty, duties_v, bigSep_singleton, payload_v]

end Sched

/-! ## What a device owes, and the levels -/

/-- The transfers from `i` on. -/
abbrev fromT (i : ℕ) : Finset (Fin 18) := Finset.univ.filter fun t => i ≤ t.val
/-- The transfers before `i`. -/
abbrev upto (i : ℕ) : Finset (Fin 18) := Finset.univ.filter fun t => t.val < i
theorem fromT_step (t : Fin 18) : fromT t.val = insert t (fromT (t.val + 1)) := by revert t; decide
theorem fromT_notMem (t : Fin 18) : t ∉ fromT (t.val + 1) := by revert t; decide
theorem upto_step (t : Fin 18) : upto (t.val + 1) = insert t (upto t.val) := by revert t; decide
theorem upto_notMem (t : Fin 18) : t ∉ upto t.val := by revert t; decide

/-- What device `c` owes having issued the transfers before `i`: the credits of the others. -/
def owed (i : ℕ) (c : Dev nD) : CellTallies nD τ sig Unit := ∑ t ∈ fromT i, tallyAt (vCell t (tgt t c)) () (N t)
theorem owed_step (t : Fin 18) (c : Dev nD) : owed t.val c = owed (t.val + 1) c + tallyAt (vCell t (tgt t c)) () (N t) := by
  unfold owed; rw [fromT_step, Finset.sum_insert (fromT_notMem t), add_comm]
theorem owed_end (c : Dev nD) : owed 18 c = 0 := by
  unfold owed; rw [show fromT 18 = ∅ from by decide, Finset.sum_empty]
theorem owed_pos {i : ℕ} {c : Dev nD} {g : GSem nD τ sig} {u : Unit} (h : 0 < owed i c g u) :
    ∃ t : Fin 18, i ≤ t.val ∧ g = vCell t (tgt t c) := by
  unfold owed at h
  rw [Finset.sum_apply, Finsupp.finsetSum_apply] at h
  obtain ⟨t, ht, h0⟩ := Finset.exists_ne_zero_of_sum_ne_zero h.ne'
  refine ⟨t, (Finset.mem_filter.mp ht).2, ?_⟩
  rw [tallyAt_apply] at h0
  by_contra hn
  exact h0 (if_neg fun h' => hn h'.1)

/-- At launch: all of it, and a barrier unit to each neighbour. -/
def O₁ (c : Dev nD) : CellTallies nD τ sig Unit := owed 0 c + tallyAt (barCell (nxt c)) () 1
def O₀ (c : Dev nD) : CellTallies nD τ sig Unit := O₁ c + tallyAt (barCell (prv c)) () 1
theorem O₀_pos {c : Dev nD} {g : GSem nD τ sig} {u : Unit} (h : 0 < O₀ c g u) :
    (∃ t : Fin 18, g = vCell t (tgt t c)) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  simp only [Nat.add_zero] at h
  obtain ⟨t, _, ht⟩ := owed_pos h
  exact hn.1 ⟨t, ht⟩

def L (g : GSem nD τ sig) : Finset Unit := if g.1.2 = .tc then {()} else ∅
/-- Barrier cells at 1, transfer `t`'s receive cell at `t + 2`, everything else at 0. -/
def lv (g : GSem nD τ sig) (_ : Unit) : ℕ := match g.2 with
  | .reg _ => 1
  | .dma q => match role q with
    | some (false, t) => t.val + 2
    | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_s (t : Fin 18) (c : Dev nD) (u : Unit) : lv (sCell t c) u = 0 := by dsimp only [lv]; rw [role_s]
theorem lv_v (t : Fin 18) (c : Dev nD) (u : Unit) : lv (vCell t c) u = t.val + 2 := by dsimp only [lv]; rw [role_v]
theorem lv_bar (c : Dev nD) (u : Unit) : lv (barCell c) u = 1 := rfl

omit [FloatOps F] in
/-- A wait at a level below everything still owed is allowed. -/
theorem mayWait_owed (c : Dev nD) (sm : SemLoc sig) (i : ℕ) (h : lv ((c : Thread nD τ), sm) () < i + 2) :
    (levAts L lv : sProp 𝕄) ⊢ MayWait (c : Thread nD τ) sm () (owed i c) :=
  MayOwe.of_cut (L := L) (lev := lv) (lv ((c : Thread nD τ), sm) ()) (fun p hp => by rw [Finset.mem_singleton.mp hp, L_tc]; exact Finset.mem_singleton_self _)
    (fun g u hg => by obtain ⟨t, _, rfl⟩ := owed_pos hg; rw [L_tc]; exact Finset.mem_singleton_self _)
    (fun p hp => by rw [Finset.mem_singleton.mp hp])
    (fun g u hg => by obtain ⟨t, ht, rfl⟩ := owed_pos hg; rw [lv_v]; omega)

omit [FloatOps F] in
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | rfl | rfl <;> (rw [L_tc]; exact Finset.mem_singleton_self _))
      (fun p hp => by rw [Finset.mem_singleton.mp hp]; exact hq.le)
      (fun g u hg => by
        rcases O₀_pos hg with ⟨t, rfl⟩ | rfl | rfl
        · rw [lv_v]; omega
        · rw [lv_bar]; decide
        · rw [lv_bar]; decide)
  · rw [MayWait_zero]; iintro -; iempintro

/-! ## The bundles -/

/-- The cells, by device: `none` the barrier, `some (b, t)` transfer `t`'s send (`true`) or receive cell. -/
abbrev kcell (ck : Dev nD × Option (Bool × Fin 18)) : GSem nD τ sig :=
  ((ck.1 : Thread nD τ), match ck.2 with | none => .reg barS | some bt => osem bt)

/-- Every cell's invariant, under the names `K`, and that every cell's round 0 is reached. -/
def records (K : Dev nD × Option (Bool × Fin 18) → ℕ) : sProp 𝕄 :=
  iprop((bigSep Finset.univ fun ck => cellInv ER (sched V) (K ck) (kcell ck)) ∗ bigSep Finset.univ fun ck => reached ER (kcell ck) 0)
instance records_persistent (K) : BI.Persistent (records V K) := by unfold records; infer_instance

/-- The facts every step uses: the records and the levels. -/
def facts (K : Dev nD × Option (Bool × Fin 18) → ℕ) : sProp 𝕄 := iprop(records V K ∗ levAts L lv)
instance facts_persistent (K) : BI.Persistent (facts V K) := by unfold facts; infer_instance

variable (K : Dev nD × Option (Bool × Fin 18) → ℕ)

omit [FloatOps F] in
theorem facts_inv (ck : Dev nD × Option (Bool × Fin 18)) : facts V K ⊢ cellInv ER (sched V) (K ck) (kcell ck) := by
  unfold facts records
  iintro ⟨⟨#HI, -⟩, -⟩
  iapply (big_elim (Finset.mem_univ ck) fun ck => (cellInv ER (sched V) (K ck) (kcell ck) : sProp 𝕄)); iexact HI
omit [FloatOps F] in
theorem facts_reached (ck : Dev nD × Option (Bool × Fin 18)) : facts V K ⊢ reached ER (kcell ck) 0 := by
  unfold facts records
  iintro ⟨⟨-, #HR⟩, -⟩
  iapply (big_elim (Finset.mem_univ ck) fun ck => (reached ER (kcell ck) 0 : sProp 𝕄)); iexact HR
omit [FloatOps F] in
theorem facts_lev : facts V K ⊢ levAts L lv := by
  unfold facts
  iintro ⟨-, #H⟩; iexact H

/-- What issuing transfer `t` takes: its two tokens and the slot it lands in. -/
def outT (t : Fin 18) (c : Dev nD) : sProp 𝕄 :=
  iprop(dutyTok ER (sCell t c) 0 false ∗ dutyTok ER (vCell t (tgt t c)) 0 false ∗ dstFree (F := F) t (tgt t c))
/-- A device that has issued the transfers before `i`. -/
def Pay (i : ℕ) (c : Dev nD) : sProp 𝕄 :=
  iprop((bigSep (fromT i) fun t => outT (F := F) t c) ∗ ∃ W, owes (c : Thread nD τ) (owed i c) W)
/-- Transfer `t` in flight: the credit for its send cell. -/
def Fly (t : Fin 18) (c : Dev nD) : sProp 𝕄 := cred (tallyAt (sCell t c) () (N t))
/-- What waiting for transfer `t` takes besides. -/
def inT (t : Fin 18) (c : Dev nD) : sProp 𝕄 :=
  iprop(atPos ER (sCell t c) 0 ∅ 0 ∗ atPos ER (vCell t c) 0 ∅ 0 ∗ cred (tallyAt (vCell t c) () (N t)))
/-- Transfer `t`'s two counters back at zero. -/
def doneT (t : Fin 18) (c : Dev nD) : sProp 𝕄 := iprop(semVal (sCell t c) 0 ∗ semVal (vCell t c) 0)
/-- A device that has waited for the transfers before `i`, -/
def Clk (i : ℕ) (c : Dev nD) : sProp 𝕄 :=
  iprop((bigSep (upto i) fun t => doneT (F := F) t c) ∗ bigSep (fromT i) fun t => inT (F := F) t c)
/-- and for the send of transfer `t` too. -/
def Mid (t : Fin 18) (c : Dev nD) : sProp 𝕄 :=
  iprop((bigSep (upto t.val) fun t => doneT (F := F) t c) ∗ semVal (sCell t c) 0 ∗ atPos ER (vCell t c) 0 ∅ 0 ∗ cred (tallyAt (vCell t c) () (N t))
    ∗ bigSep (fromT (t.val + 1)) fun t => inT (F := F) t c)

/-! ## The steps -/

section Steps
variable {α : Type} {k : PUnit → Prog (TpuEff nD τ sig (Elt F) Λ₀ .tc) α}

omit [FloatOps F] in
theorem read_squeeze {s s' : Shape} {e : EltTy} (A : Memref sig .tc .vmem s e) (h : s.Squeezes s') (f : A.view.ty.Contents (Elt F)) (y : s'.Idx) :
    (A.squeeze s' h).view.read (Elt F) f y = A.view.read (Elt F) f (Shape.reshapeEquiv h.numel_eq y) := rfl

omit [FloatOps F] in
/-- The elements of a slot rewritten with what another slot reads read the same. -/
theorem read_landed {s s' : Shape} {e : EltTy} (A B : Memref sig .tc .vmem s e) (h : s.Squeezes s') (f : A.view.ty.Contents (Elt F)) (g : B.view.ty.Contents (Elt F)) :
    B.view.read (Elt F) ((B.squeeze s' h).view.write (Elt F) g ((A.squeeze s' h).view.read (Elt F) f) Finset.univ) = A.view.read (Elt F) f := by
  funext x
  obtain ⟨y, rfl⟩ := (Shape.reshapeEquiv h.numel_eq).surjective x
  rw [← read_squeeze A h f y, ← read_squeeze B h _ y, View.read_write_univ]

omit [FloatOps F] in
/-- Holding a squeezed slot is holding the slot. -/
theorem held_squeeze {s s' : Shape} {e : EltTy} (A : Memref sig .tc .vmem s e) (h : s.Squeezes s') (c : Dev nD) (q : PosShare TreeShare) (f : A.view.ty.Contents (Elt F)) :
    ((A.squeeze s' h).view.loc (c : Thread nD τ) ↦[(A.squeeze s' h).view.set]{q} f : sProp 𝕄) = (A.view.loc (c : Thread nD τ) ↦[A.view.set]{q} f : sProp 𝕄) := by
  rw [show (A.squeeze s' h).view.set = A.view.set from View.set_reshape A.view h.numel_eq]

/-- Issuing transfer `t`. -/
theorem step_send {Q : α → sProp 𝕄} {s s' : Shape} {e : EltTy} (t : Fin 18) {i j : ℕ} (hi : t.val = i) (hj : t.val + 1 = j) (c n : Dev nD) (hn : n = tgt t c)
    {qs qv : DmaSem sig} (hqs : qs = sS t) (hqv : qv = vS t)
    (A B : Memref sig .tc .vmem s e) (h : s.Squeezes s') (q : PosShare TreeShare) (v : s.Idx → Elt F e)
    (hN : (B.squeeze s' h).view.dmaCredit = N t) (hs : sendPay V t c = has c A q v) (hd : dstFree (F := F) t (tgt t c) = free (tgt t c) B)
    (hr : recvPay V t (tgt t c) = has (tgt t c) B fullShare v)
    {hsc : (B.squeeze s' h : Memref sig (Dev.tc n : Thread nD τ).2.kind .vmem s' e).view.ref.isScScratch = false}
    {hsrc : (A.squeeze s' h).view.WordExact} {hdst : (B.squeeze s' h).view.WordExact}
    {hsem : DmaTarget.Typed .vmem (.dma qv) (.remote (Dev.tc n : Thread nD τ) (B.squeeze s' h : Memref sig .tc .vmem s' e) (.dma qs) hsc)} :
    iprop(facts V K ∗ Pay (F := F) i c ∗ has c A q v)
      ⊢ iprop(((Pay (F := F) j c ∗ Fly (F := F) t c) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (A.squeeze s' h) (.remote (Dev.tc n : Thread nD τ) (B.squeeze s' h) (.dma qs) hsc) (.dma qv) hsrc hdst hsem) k) Q) := by
  subst hn hqs hqv hi hj
  unfold Pay
  rw [fromT_step, big_cons (fromT_notMem t)]
  unfold outT; rw [hd]
  unfold free has owns Fly
  iintro ⟨#HF, ⟨⟨⟨HtS, HtV, ⟨%v', %g, %hg, Hdst⟩⟩, Hrest⟩, ⟨%W, HO⟩⟩, ⟨%f, %hf, Hsrc⟩⟩ Hk
  have hpay₁ : ((A.squeeze s' h).view.loc (c : Thread nD τ) ↦[(A.squeeze s' h).view.set]{q} f : sProp 𝕄) ⊢ (sched V).payload (sCell t c) 0 false := by
    rw [payload_s, hs]; unfold has owns
    iintro H
    iexists f
    isplitr; · ipureintro; exact hf
    ihave H' := (Entails.of_eq (held_squeeze A h c q f)) $$ H
    iexact H'
  have hpay₂ : ((B.squeeze s' h).view.loc (tgt t c : Thread nD τ) ↦[(B.squeeze s' h).view.set]{fullShare}
      ((B.squeeze s' h).view.write (Elt F) g ((A.squeeze s' h).view.read (Elt F) f) Finset.univ) : sProp 𝕄) ⊢ (sched V).payload (vCell t (tgt t c)) 0 false := by
    rw [payload_v, hr]; unfold has owns
    iintro H
    iexists _
    isplitr; · ipureintro; exact (read_landed A B h f g).trans hf
    ihave H' := (Entails.of_eq (held_squeeze B h (tgt t c) fullShare _)) $$ H
    iexact H'
  ihave Hsrc := (Entails.of_eq (held_squeeze A h c q f).symm) $$ Hsrc
  ihave Hdst := (Entails.of_eq (held_squeeze B h (tgt t c) fullShare g).symm) $$ Hdst
  ihave #I1 := (facts_inv V K (c, some (true, t))) $$ HF
  ihave #I2 := (facts_inv V K (tgt t c, some (false, t))) $$ HF
  ihave #R1 := (facts_reached V K (c, some (true, t))) $$ HF
  ihave #R2 := (facts_reached V K (tgt t c, some (false, t))) $$ HF
  iapply (Rounds.wp_send_pointsTo 𝒱₀ ER (sched V) (c : Thread nD τ) none (κ₁ := K (c, some (true, t))) (κ₂ := K (tgt t c, some (false, t)))
    (c' := (tgt t c : Thread nD τ)) (src := A.squeeze s' h) (dst := B.squeeze s' h) (sem := .dma (vS t)) (r₁ := 0) (r₂ := 0) (d₁ := false) (d₂ := false) (fd := g) (fs := f) (q := q)
    (by rw [duties_s]; exact Finset.mem_singleton_self _) (by rw [duties_v]; exact Finset.mem_singleton_self _)
    () () (N t) (by exact hN) (amount_s V c t false) (amount_v V (tgt t c) t false) (owed (t.val + 1) c) (owed_step t c) (W := W) hpay₁ hpay₂) $$ [HtS HtV Hdst HO Hsrc]
  · isplitr; · iexact I1
    isplitr; · iexact I2
    isplitl [Hsrc]; · iexact Hsrc
    isplitl [Hdst]; · iexact Hdst
    isplitl [HO]; · iexact HO
    isplitl [HtS]; · iexact HtS
    isplitr; · iexact R1
    isplitl [HtV]; · iexact HtV
    iexact R2
  iintro ⟨Hc, HO⟩
  iapply Hk
  isplitl [Hrest HO]
  · isplitl [Hrest]; · iexact Hrest
    iexists W; iexact HO
  iexact Hc

/-- Waiting for the send of transfer `t`: its source comes back. -/
theorem step_wait_send {Q : α → sProp 𝕄} {sp sp' : Space} {s s' : Shape} {e e' : EltTy} (t : Fin 18) {i : ℕ} (hi : t.val = i) (j : ℕ) (c : Dev nD)
    {qs : DmaSem sig} (hqs : qs = sS t) {src : Memref sig .tc sp' s' e'} {dst : Memref sig .tc sp s e} (hN : dst.view.dmaCredit = N t)
    {hsrc : src.view.WordExact} {hdst : dst.view.WordExact} :
    iprop(facts V K ∗ Clk (F := F) i c ∗ Fly (F := F) t c ∗ Pay (F := F) j c)
      ⊢ iprop(((Mid (F := F) t c ∗ sendPay V t c ∗ Pay (F := F) j c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hqs hi
  unfold Clk Mid Pay Fly
  rw [fromT_step t, big_cons (fromT_notMem t)]
  unfold inT
  iintro ⟨#HF, ⟨Hdone, ⟨HatS, HatV, HcV⟩, Hrest⟩, HcS, ⟨Hout, ⟨%W, HO⟩⟩⟩ Hk
  ihave #I1 := (facts_inv V K (c, some (true, t))) $$ HF
  ihave #Hlev := (facts_lev V K) $$ HF
  iapply (Rounds.wp_wait_rest_token 𝒱₀ ER (sched V) (c : Thread nD τ) none (κ := K (c, some (true, t)))
      (wpE_waitDma2_eq 𝒱₀ (c : Thread nD τ) none Set.univ) (Set.mem_univ _) () (O := owed j c) (W := W) (R := 0) (m := 0) (T := ∅)
      (by rw [Nat.zero_add, hN, expect_s])) $$ [HcS HO HatS]
  · isplitr; · iexact I1
    isplitl [HcS]; · rw [hN]; iexact HcS
    isplitl [HO]; · iexact HO
    isplitr; · iapply (mayWait_owed c (.dma (sS t)) j (by rw [lv_s]; omega)); iexact Hlev
    iexact HatS
  iintro ⟨HO, HatS, -, Hpay⟩
  ihave Hp := (Entails.of_eq (rest_s V c t)) $$ Hpay
  imod (Rounds.cell_close ER (sched V) (Set.mem_univ (K (c, some (true, t)))) (fun h => h) (R := 0 + 1) (duties_later V (sCell t c))) $$ [HatS] with Hz
  · isplitr; · iexact I1
    iexact HatS
  iapply Hk
  isplitl [Hdone HatV HcV Hrest Hz]
  · isplitl [Hdone]; · iexact Hdone
    isplitl [Hz]; · iexact Hz
    isplitl [HatV]; · iexact HatV
    isplitl [HcV]; · iexact HcV
    iexact Hrest
  isplitl [Hp]; · iexact Hp
  isplitl [Hout]; · iexact Hout
  iexists _; iexact HO

/-- Waiting for what transfer `t` brings, before which everything up to `t` has been issued. -/
theorem step_wait_recv {Q : α → sProp 𝕄} {sp sp' : Space} {s s' : Shape} {e e' : EltTy} (t : Fin 18) {i : ℕ} (hi : t.val + 1 = i) (j : ℕ) (hj : t.val < j) (c : Dev nD)
    {qv : DmaSem sig} (hqv : qv = vS t) {src : Memref sig .tc sp' s' e'} {dst : Memref sig .tc sp s e} (hN : dst.view.dmaCredit = N t)
    {hsrc : src.view.WordExact} {hdst : dst.view.WordExact} :
    iprop(facts V K ∗ Mid (F := F) t c ∗ Pay (F := F) j c)
      ⊢ iprop(((Clk (F := F) i c ∗ recvPay V t c ∗ Pay (F := F) j c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qv src dst hsrc hdst) k) Q) := by
  subst hqv hi
  unfold Clk Mid Pay
  rw [upto_step t, big_cons (upto_notMem t)]
  iintro ⟨#HF, ⟨Hdone, HzS, HatV, HcV, Hrest⟩, ⟨Hout, ⟨%W, HO⟩⟩⟩ Hk
  ihave #I1 := (facts_inv V K (c, some (false, t))) $$ HF
  ihave #Hlev := (facts_lev V K) $$ HF
  iapply (Rounds.wp_wait_rest_token 𝒱₀ ER (sched V) (c : Thread nD τ) none (κ := K (c, some (false, t)))
      (wpE_waitDma2_eq 𝒱₀ (c : Thread nD τ) none Set.univ) (Set.mem_univ _) () (O := owed j c) (W := W) (R := 0) (m := 0) (T := ∅)
      (by rw [Nat.zero_add, hN, expect_v])) $$ [HcV HO HatV]
  · isplitr; · iexact I1
    isplitl [HcV]; · rw [hN]; iexact HcV
    isplitl [HO]; · iexact HO
    isplitr; · iapply (mayWait_owed c (.dma (vS t)) j (by rw [lv_v]; omega)); iexact Hlev
    iexact HatV
  iintro ⟨HO, HatV, -, Hpay⟩
  ihave Hp := (Entails.of_eq (rest_v V c t)) $$ Hpay
  imod (Rounds.cell_close ER (sched V) (Set.mem_univ (K (c, some (false, t)))) (fun h => h) (R := 0 + 1) (duties_later V (vCell t c))) $$ [HatV] with Hz
  · isplitr; · iexact I1
    iexact HatV
  iapply Hk
  isplitl [Hdone HzS Hrest Hz]
  · isplitl [Hdone HzS Hz]
    · isplitl [HzS Hz]
      · unfold doneT
        isplitl [HzS] <;> iassumption
      iexact Hdone
    iexact Hrest
  isplitl [Hp]; · iexact Hp
  isplitl [Hout]; · iexact Hout
  iexists _; iexact HO

end Steps

/-! ## Loads and stores of slots -/

section Access
variable {α : Type}

omit [FloatOps F] in
/-- The two halves of a slot's share. -/
theorem has_halves {s : Shape} {e : EltTy} (c : Dev nD) (A : Memref sig .tc .vmem s e) (v : s.Idx → Elt F e) :
    (has c A fullShare v : sProp 𝕄) ⊢ iprop(has c A hL v ∗ has c A hR v) := by
  unfold has owns
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

omit [FloatOps F] in
theorem has_join {s : Shape} {e : EltTy} (c : Dev nD) (A : Memref sig .tc .vmem s e) (v : s.Idx → Elt F e) :
    (iprop(has c A hL v ∗ has c A hR v) : sProp 𝕄) ⊢ has c A fullShare v := by
  unfold has owns
  iintro ⟨⟨%f, %hf, H1⟩, ⟨%g, %hg, H2⟩⟩
  iexists f
  isplitr; · ipureintro; exact hf
  have hfg : ∀ i ∈ A.view.set, g i = f i := fun i hi => by
    obtain ⟨x, -, rfl⟩ := Finset.mem_map.mp hi
    have h := congrFun (hg.trans hf.symm) x
    rw [View.read_apply, View.read_apply] at h
    exact (cast_inj _).mp h
  ihave H2 := (Entails.of_eq (pointsTo_congr hfg)) $$ H2
  iapply (pointsTo_share (PosShare.mem_left_op_right fullShare)).2
  isplitl [H1] <;> iassumption

omit [FloatOps F] in
theorem has_free {s : Shape} {e : EltTy} (c : Dev nD) (A : Memref sig .tc .vmem s e) (v : s.Idx → Elt F e) :
    (has c A fullShare v : sProp 𝕄) ⊢ free c A := by
  unfold free; iintro H; iexists v; iexact H

/-- A load of a slot gives what it reads. -/
theorem step_load {Q : α → sProp 𝕄} {s : Shape} {e : EltTy} (c : Dev nD) (m : Memref sig .tc .vmem s e) (r : Rect s) (hr : ∀ a, r.stride a = 1)
    {hl : m.view.LoadsAt r.toLoadRect} {k : (r.shape.Idx → Elt F e) → Prog (TpuEff nD τ sig (Elt F) Λ₀ .tc) α} {q : PosShare TreeShare} {v : r.shape.Idx → Elt F e} :
    (has c (m.slice r hr) q v : sProp 𝕄)
      ⊢ iprop((has c (m.slice r hr) q v -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) := by
  unfold has owns
  iintro ⟨%f, %hf, H⟩ Hk
  iapply (wp_load_rect 𝒱₀ (c : Thread nD τ) none Set.univ (m := m) (r := r) (Finset.Subset.refl _)) $$ H
  iintro H
  rw [show (m.access r).read (Elt F) f = v from hf]
  iapply Hk
  iexists f; isplitr; · ipureintro; exact hf
  iexact H

/-- A load of a free slot gives something. -/
theorem step_load_free {Q : α → sProp 𝕄} {s : Shape} {e : EltTy} (c : Dev nD) (m : Memref sig .tc .vmem s e) (r : Rect s) (hr : ∀ a, r.stride a = 1)
    {hl : m.view.LoadsAt r.toLoadRect} {k : (r.shape.Idx → Elt F e) → Prog (TpuEff nD τ sig (Elt F) Λ₀ .tc) α} :
    (free c (m.slice r hr) : sProp 𝕄)
      ⊢ iprop((∀ v, free c (m.slice r hr) -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) := by
  unfold free
  iintro ⟨%v, H⟩ Hk
  iapply (step_load c m r hr) $$ H
  iintro H
  iapply Hk $$ %v
  iexists v; iexact H

/-- A store over a free slot makes it read what was stored. -/
theorem step_store {Q : α → sProp 𝕄} {s : Shape} {e : EltTy} (c : Dev nD) (m : Memref sig .tc .vmem s e) (r : Rect s) (hr : ∀ a, r.stride a = 1) {w : r.shape.Idx → Elt F e}
    {hx : (m.access r).Stores Finset.univ} {hm : (Finset.univ : Finset r.shape.Idx) = Finset.univ ∨ ∀ a, r.stride a = 1} {k : PUnit → Prog (TpuEff nD τ sig (Elt F) Λ₀ .tc) α} :
    (free c (m.slice r hr) : sProp 𝕄)
      ⊢ iprop((has c (m.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  unfold free has owns
  iintro ⟨%v, %f, -, H⟩ Hk
  iapply (wp_store 𝒱₀ (c : Thread nD τ) none Set.univ (m := m) (r := r) (Mk := Finset.univ) (S := (m.slice r hr).view.set) (f := f) (Finset.Subset.refl _)) $$ H
  iintro H
  iapply Hk
  iexists ((m.access r).write (Elt F) f w Finset.univ); isplitr; · ipureintro; exact View.read_write_univ f w
  iexact H

end Access

/-! ## Cutting a buffer into slots -/

section Cut
variable {α : Type}

instance elt_nonempty (e : EltTy) : Nonempty (Elt F e) := by
  cases e <;> first | exact (⟨0⟩ : Nonempty (BitVec _)) | exact (⟨FloatOps.ofBits _ (BitVec.ofNat _ 0)⟩ : Nonempty (F _))

/-- Device `c` holds a buffer whole, with these contents. -/
abbrev holds {s : Shape} {e : EltTy} (c : Dev nD) (m : Memref sig .tc .vmem s e) (f : m.view.ty.Contents (Elt F)) : sProp 𝕄 :=
  (m.view.loc (c : Thread nD τ) ↦[m.view.set]{fullShare} f)

omit [FloatOps F] in
theorem slice_subset {s : Shape} {e : EltTy} (m : Memref sig .tc .vmem s e) (r : Rect s) : (m.access r).set ⊆ m.view.set := by
  rw [View.set_slice]; exact Finset.map_subset_map.mpr (Finset.subset_univ _)

/-- A load from a whole buffer. -/
theorem step_peek {Q : α → sProp 𝕄} {s : Shape} {e : EltTy} (c : Dev nD) (m : Memref sig .tc .vmem s e) (r : Rect s) (hr : ∀ a, r.stride a = 1)
    {hl : m.view.LoadsAt r.toLoadRect} {k : (r.shape.Idx → Elt F e) → Prog (TpuEff nD τ sig (Elt F) Λ₀ .tc) α}
    {f : m.view.ty.Contents (Elt F)} {v : r.shape.Idx → Elt F e} (hv : (m.slice r hr).view.read (Elt F) f = v) :
    (holds c m f : sProp 𝕄)
      ⊢ iprop((holds c m f -∗ wp frame (wpE (defs₀ (F := F)) 𝒱₀ (c : Thread nD τ) none) Set.univ (k v) Q)
          -∗ wp frame (wpE (defs₀ (F := F)) 𝒱₀ (c : Thread nD τ) none) Set.univ (.op (.load m r.toLoadRect hl) k) Q) := by
  iintro H Hk
  iapply (wp_load_rect 𝒱₀ (c : Thread nD τ) none Set.univ (m := m) (r := r) (slice_subset m r)) $$ H
  iintro H
  rw [show (m.access r).read (Elt F) f = v from hv]
  iapply Hk; iexact H

/-- A store over a whole buffer. -/
theorem step_poke {Q : α → sProp 𝕄} {s : Shape} {e : EltTy} (c : Dev nD) (m : Memref sig .tc .vmem s e) (r : Rect s) {w : r.shape.Idx → Elt F e}
    {hx : (m.access r).Stores Finset.univ} {hm : (Finset.univ : Finset r.shape.Idx) = Finset.univ ∨ ∀ a, r.stride a = 1} {k : PUnit → Prog (TpuEff nD τ sig (Elt F) Λ₀ .tc) α}
    {f g : m.view.ty.Contents (Elt F)} (hg : (m.access r).write (Elt F) f w Finset.univ = g) :
    (holds c m f : sProp 𝕄)
      ⊢ iprop((holds c m g -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  iintro H Hk
  iapply (wp_store 𝒱₀ (c : Thread nD τ) none Set.univ (m := m) (r := r) (Mk := Finset.univ) (S := m.view.set) (f := f) (slice_subset m r)) $$ H
  iintro H
  rw [hg]
  iapply Hk; iexact H

variable {n : ℕ} {s : Shape} {e : EltTy} (c : Dev nD) (m : Memref sig .tc .vmem s e) (rs : Fin n → Rect s) (hr : ∀ i a, (rs i).stride a = 1)

include hr in
/-- A buffer is its slots. -/
theorem cut (hd : ∀ i j, i ≠ j → Disjoint (rs i).set (rs j).set) (hc : (Finset.univ : Finset (Fin n)).biUnion (fun i => (rs i).set) = Finset.univ) :
    (free c m : sProp 𝕄) ⊢ bigSep Finset.univ fun i => free (F := F) c (m.slice (rs i) (hr i)) := by
  unfold free
  iintro ⟨%v, H⟩
  ihave H' := (show (has c m fullShare v : sProp 𝕄) ⊢ bigSep Finset.univ (fun i => has c (m.slice (rs i) (hr i)) fullShare fun j => v ((rs i).emb j))
    from owns_rects (c : Thread nD τ) m fullShare rs hr hd hc v) $$ H
  iapply (show (bigSep Finset.univ (fun i => has c (m.slice (rs i) (hr i)) fullShare fun j => v ((rs i).emb j)) : sProp 𝕄)
    ⊢ bigSep Finset.univ (fun i => free (F := F) c (m.slice (rs i) (hr i))) from bigSep_mono fun i _ => has_free c _ _)
  iexact H'

/-- The slots, each reading something known, are a buffer that reads so. -/
theorem uncut (hd : ∀ i j, i ≠ j → Disjoint (rs i).set (rs j).set) (hc : (Finset.univ : Finset (Fin n)).biUnion (fun i => (rs i).set) = Finset.univ)
    (v : ∀ i, (rs i).shape.Idx → Elt F e) :
    (bigSep Finset.univ fun i => has c (m.slice (rs i) (hr i)) fullShare (v i) : sProp 𝕄) ⊢ has c m fullShare (Rect.glue rs hc v) := by
  have hg : ∀ i, v i = fun j => Rect.glue rs hc v ((rs i).emb j) := fun i => (funext fun y => Rect.glue_emb rs hc hd v i y).symm
  refine BI.Entails.trans (Entails.of_eq (bigSep_congr fun i _ => ?_)) (owns_of_rects (c : Thread nD τ) m fullShare rs hr hd hc (Rect.glue rs hc v))
  exact congrArg (fun w => has c (m.slice (rs i) (hr i)) fullShare w) (hg i)

theorem uncut_free (hd : ∀ i j, i ≠ j → Disjoint (rs i).set (rs j).set) (hc : (Finset.univ : Finset (Fin n)).biUnion (fun i => (rs i).set) = Finset.univ) :
    (bigSep Finset.univ fun i => free (F := F) c (m.slice (rs i) (hr i)) : sProp 𝕄) ⊢ free c m := by
  unfold free
  refine (BI.bigSep_exists_pi _ _).trans ?_
  iintro ⟨%v, H⟩
  iexists (Rect.glue rs hc v)
  iapply (uncut c m rs hr hd hc v); iexact H

end Cut

end Cert.Moe

end
-- ==== Proof.Values.lean ====
/-
# What every device computes

The kernel's intermediate values, named as functions of the arguments and the device, and the blocks that travel.
-/

module

public import proofs.«01_k».proof.Proof.Base

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The four arguments, device by device. -/
structure In (F : FTy → Type) where
  x : Dev nD → Vec F S1024x512 .f32
  rw : Dev nD → Vec F S512x16 .f32
  idx : Dev nD → Vec F S1024x2 .i32
  ew : Dev nD → Vec F S4x512x1024 .f32

/-- The four expert matrices a device holds, in the narrow copy. -/
abbrev E0 : Memref sig .tc .vmem S1x512x1024 .bf16 := (Memref.whole cc0_scratch4).slice (Rect.unit (s := S4x512x1024) ![0, 0, 0] S1x512x1024.size inb_S4x512x1024_S1x512x1024_0_0_0) (fun _ => rfl)
abbrev E1 : Memref sig .tc .vmem S1x512x1024 .bf16 := (Memref.whole cc0_scratch4).slice (Rect.unit (s := S4x512x1024) ![1, 0, 0] S1x512x1024.size inb_S4x512x1024_S1x512x1024_1_0_0) (fun _ => rfl)
abbrev E2 : Memref sig .tc .vmem S1x512x1024 .bf16 := (Memref.whole cc0_scratch4).slice (Rect.unit (s := S4x512x1024) ![2, 0, 0] S1x512x1024.size inb_S4x512x1024_S1x512x1024_2_0_0) (fun _ => rfl)
abbrev E3 : Memref sig .tc .vmem S1x512x1024 .bf16 := (Memref.whole cc0_scratch4).slice (Rect.unit (s := S4x512x1024) ![3, 0, 0] S1x512x1024.size inb_S4x512x1024_S1x512x1024_3_0_0) (fun _ => rfl)
abbrev I0 : Memref sig .tc .vmem S1024x1 .i32 := (Memref.whole cc0_stg2_0).slice (Rect.unit (s := S1024x2) ![0, 0] S1024x1.size inb_S1024x2_S1024x1_0_0) (fun _ => rfl)
abbrev I1 : Memref sig .tc .vmem S1024x1 .i32 := (Memref.whole cc0_stg2_0).slice (Rect.unit (s := S1024x2) ![0, 1] S1024x1.size inb_S1024x2_S1024x1_0_1) (fun _ => rfl)
abbrev OT : Memref sig .tc .vmem S512x1024 .f32 := (Memref.whole cc0_stg4_0).slice (Rect.unit (s := S1024x1024) ![0, 0] S512x1024.size inb_S1024x1024_S512x1024_0_0) (fun _ => rfl)
abbrev OB : Memref sig .tc .vmem S512x1024 .f32 := (Memref.whole cc0_stg4_0).slice (Rect.unit (s := S1024x1024) ![512, 0] S512x1024.size inb_S1024x1024_S512x1024_512_0) (fun _ => rfl)

/-- A device's number, as the kernel computes it. -/
def v2 (c : Dev nD) : BitVec 32 := Scalar.remsi (Scalar.divsi (Dev.word c) 1#32) 4#32
def v27 : IVec S1024x16 32 := iota .tc S1024x16 32 [1] iota_S1024x16_d1_w32
def v77 : IVec S512x16 32 := iota .tc S512x16 32 [1] iota_S512x16_d1_w32
def cst_347 : F .f32 := Scalar.ofBits .f32 0x00000000#32
def cst_592 : FVec F S512x1024 .f32 := constant S512x1024 .f32 0x00000000#32

/-- The two columns of the routing indices. -/
def col0 (A : In F) (c : Dev nD) : Vec F S1024x1 .i32 := (I0 : Memref sig .tc .vmem S1024x1 .i32).view.read (Elt F) (A.idx c)
def col1 (A : In F) (c : Dev nD) : Vec F S1024x1 .i32 := (I1 : Memref sig .tc .vmem S1024x1 .i32).view.read (Elt F) (A.idx c)

def v22 (A : In F) (c : Dev nD) : FVec F S1024x16 .f32 := k0_pay2 (A.x c) (A.rw c)
def v29 (A : In F) (c : Dev nD) : IVec S1024x16 1 := k0_pay3 (col0 A c)
def v30 (A : In F) (c : Dev nD) : IVec S1024x16 32 := k0_pay4 (col1 A c)
/-- The half of the tokens that goes right, -/
def xr (A : In F) (c : Dev nD) : Vec F S1x512x512 .bf16 := (k0_pay7 (A.x c))
/-- the half that goes left, -/
def xl (A : In F) (c : Dev nD) : Vec F S1x512x512 .bf16 := (k0_pay8 (A.x c))
/-- and their gates. -/
def wr (A : In F) (c : Dev nD) : Vec F S1x512x16 .f32 := (k0_pay9 (v22 A c) v27 (v29 A c) (v30 A c))
def v67 (A : In F) (c : Dev nD) : FVec F S512x16 .f32 := (k0_pay10 (v22 A c) v27 (v29 A c) (v30 A c))
def wl (A : In F) (c : Dev nD) : Vec F S1x512x16 .f32 := (k0_pay11 (v67 A c))
/-- The expert matrices, narrow. -/
def ewb (A : In F) (c : Dev nD) : Vec F S4x512x1024 .bf16 := (k0_pay12 (A.ew c))
def eb0 (A : In F) (c : Dev nD) : Vec F S1x512x1024 .bf16 := (E0 : Memref sig .tc .vmem S1x512x1024 .bf16).view.read (Elt F) (ewb A c)
def eb1 (A : In F) (c : Dev nD) : Vec F S1x512x1024 .bf16 := (E1 : Memref sig .tc .vmem S1x512x1024 .bf16).view.read (Elt F) (ewb A c)
def eb2 (A : In F) (c : Dev nD) : Vec F S1x512x1024 .bf16 := (E2 : Memref sig .tc .vmem S1x512x1024 .bf16).view.read (Elt F) (ewb A c)
def eb3 (A : In F) (c : Dev nD) : Vec F S1x512x1024 .bf16 := (E3 : Memref sig .tc .vmem S1x512x1024 .bf16).view.read (Elt F) (ewb A c)
def v119 (A : In F) (c : Dev nD) : FVec F S512x512 .bf16 := k0_pay13 (xr A (back 0 c))
def v121 (A : In F) (c : Dev nD) : FVec F S512x16 .f32 := k0_pay14 (wr A (back 0 c))
def v125 (A : In F) (c : Dev nD) : IVec S512x16 1 := k0_pay15 (v2 c) v77
def v126 (A : In F) (c : Dev nD) : FVec F S512x16 .f32 := k0_pay16 (F := F)
def v165 (A : In F) (c : Dev nD) : FVec F S512x1024 .f32 := (k0_pay17 (v2 c) v77 (v119 A c) (v121 A c) (v125 A c) (v126 A c) (eb0 A c) (eb1 A c) (eb2 A c))
def v180 (A : In F) (c : Dev nD) : FVec F S512x1024 .f32 := k0_pay18 (v2 c) v77 (v119 A c) (v121 A c) (v165 A c) (eb3 A c)
def v182 (A : In F) (c : Dev nD) : FVec F S512x512 .bf16 := k0_pay19 (xl A (fore 0 c))
def v184 (A : In F) (c : Dev nD) : FVec F S512x16 .f32 := k0_pay20 (wl A (fore 0 c))
def v198 (A : In F) (c : Dev nD) : FVec F S512x1024 .f32 := k0_pay21 (v2 c) v77 (xl A (fore 0 c)) (wl A (fore 0 c)) (eb0 A c)
def v201 (A : In F) (c : Dev nD) : IVec S512x16 32 := k0_pay22 (v2 c)
def v228 (A : In F) (c : Dev nD) : FVec F S512x1024 .f32 := k0_pay23 (v2 c) v77 (v182 A c) (v184 A c) (v198 A c) (v201 A c) (eb1 A c) (eb2 A c)
def v239 (A : In F) (c : Dev nD) : FVec F S512x512 .bf16 := k0_pay24 (v2 c) v77 (v182 A c) (v184 A c)
def v240 (A : In F) (c : Dev nD) : Vec F S1x512x1024 .bf16 := (eb3 A c)
def v243 (A : In F) (c : Dev nD) : FVec F S512x1024 .f32 := k0_pay25 (v228 A c) (v239 A c) (v240 A c)
def v292 (A : In F) (c : Dev nD) : Vec F S1x512x512 .bf16 := (xr A (back 1 c))
def v293 (A : In F) (c : Dev nD) : FVec F S512x512 .bf16 := k0_pay26 (v292 A c)
def v295 (A : In F) (c : Dev nD) : FVec F S512x16 .f32 := k0_pay27 (wr A (back 1 c))
def v324 (A : In F) (c : Dev nD) : FVec F S512x1024 .f32 := k0_pay28 (v2 c) v77 (v292 A c) (wr A (back 1 c)) (eb0 A c) (eb1 A c)
def v330 (A : In F) (c : Dev nD) : FVec F S512x16 .f32 := k0_pay29 (v2 c) v77 (wr A (back 1 c))
/-- A partial sum sent on. -/
def sr0 (A : In F) (c : Dev nD) : Vec F S1x512x1024 .bf16 := (k0_pay30 (v2 c) v77 (v293 A c) (v295 A c) (v324 A c) (v330 A c) (eb2 A c) (eb3 A c))
def v418 (A : In F) (c : Dev nD) : FVec F S512x512 .bf16 := k0_pay31 (xl A (fore 1 c))
def v420 (A : In F) (c : Dev nD) : FVec F S512x16 .f32 := k0_pay32 (wl A (fore 1 c))
def v449 (A : In F) (c : Dev nD) : FVec F S512x1024 .f32 := k0_pay33 (v2 c) v77 (xl A (fore 1 c)) (wl A (fore 1 c)) (eb0 A c) (eb1 A c)
def v453 (A : In F) (c : Dev nD) : IVec S512x16 1 := k0_pay34 (v2 c) v77
/-- A partial sum sent on. -/
def sl0 (A : In F) (c : Dev nD) : Vec F S1x512x1024 .bf16 := (k0_pay35 (v2 c) v77 (v418 A c) (v420 A c) (v449 A c) (v453 A c) (cst_347 (F := F)) (eb2 A c) (eb3 A c))
def v543 (A : In F) (c : Dev nD) : FVec F S512x512 .bf16 := k0_pay36 (xr A (back 2 c))
def v545 (A : In F) (c : Dev nD) : FVec F S512x16 .f32 := k0_pay37 (wr A (back 2 c))
def v574 (A : In F) (c : Dev nD) : FVec F S512x1024 .f32 := k0_pay38 (v2 c) v77 (xr A (back 2 c)) (wr A (back 2 c)) (eb0 A c) (eb1 A c)
def v577 (A : In F) (c : Dev nD) : IVec S512x16 32 := k0_pay39 (v2 c)
def v604 (A : In F) (c : Dev nD) : FVec F S512x1024 .f32 := (k0_pay40 (v2 c) v77 (v543 A c) (v545 A c) (v574 A c) (v577 A c) (eb2 A c) (eb3 A c))
/-- A partial sum sent on. -/
def sr1 (A : In F) (c : Dev nD) : Vec F S1x512x1024 .bf16 := (k0_pay41 (v604 A c) (sr0 A (prv c)))
def v686 (A : In F) (c : Dev nD) : FVec F S512x512 .bf16 := k0_pay42 (xl A (fore 2 c))
def v688 (A : In F) (c : Dev nD) : FVec F S512x16 .f32 := k0_pay43 (wl A (fore 2 c))
def v692 (A : In F) (c : Dev nD) : IVec S512x16 1 := k0_pay44 (v2 c) v77
def v717 (A : In F) (c : Dev nD) : FVec F S512x1024 .f32 := k0_pay45 (v2 c) v77 (v686 A c) (v688 A c) (v692 A c) (eb0 A c) (eb1 A c)
def v728 (A : In F) (c : Dev nD) : FVec F S512x512 .bf16 := k0_pay46 (v2 c) v77 (v686 A c) (v688 A c)
def v730 (A : In F) (c : Dev nD) : FVec F S512x1024 .bf16 := k0_pay47 (eb2 A c)
def v747 (A : In F) (c : Dev nD) : FVec F S512x1024 .f32 := (k0_pay48 (v2 c) v77 (v686 A c) (v688 A c) (v717 A c) (v728 A c) (v730 A c) (cst_592 (F := F)) (eb3 A c))
/-- A partial sum sent on. -/
def sl1 (A : In F) (c : Dev nD) : Vec F S1x512x1024 .bf16 := (k0_pay49 (v747 A c) (sl0 A (nxt c)))
def v809 (A : In F) (c : Dev nD) : FVec F S512x512 .bf16 := k0_pay50 (xr A (back 3 c))
def v811 (A : In F) (c : Dev nD) : FVec F S512x16 .f32 := k0_pay51 (wr A (back 3 c))
def v813 (A : In F) (c : Dev nD) : BitVec 32 := (Scalar.addi (Scalar.muli (v2 c) 4#32) 0#32)
def v840 (A : In F) (c : Dev nD) : FVec F S512x1024 .f32 := k0_pay52 (v2 c) v77 (v809 A c) (v811 A c) (v813 A c) (eb0 A c) (eb1 A c)
def v851 (A : In F) (c : Dev nD) : FVec F S512x512 .bf16 := k0_pay53 (v2 c) v77 (v809 A c) (v811 A c)
def v852 (A : In F) (c : Dev nD) : Vec F S1x512x1024 .bf16 := (eb2 A c)
def v870 (A : In F) (c : Dev nD) : FVec F S512x1024 .f32 := (k0_pay54 (v2 c) v77 (v809 A c) (v811 A c) (v840 A c) (v851 A c) (v852 A c) (eb3 A c))
/-- A partial sum sent on. -/
def sr2 (A : In F) (c : Dev nD) : Vec F S1x512x1024 .bf16 := (k0_pay55 (v870 A c) (sr1 A (prv c)))
def v932 (A : In F) (c : Dev nD) : FVec F S512x512 .bf16 := k0_pay56 (xl A (fore 3 c))
def v934 (A : In F) (c : Dev nD) : FVec F S512x16 .f32 := k0_pay57 (wl A (fore 3 c))
def v935 (A : In F) (c : Dev nD) : BitVec 32 := (Scalar.muli (v2 c) 4#32)
def v963 (A : In F) (c : Dev nD) : FVec F S512x1024 .f32 := k0_pay58 (v2 c) v77 (v932 A c) (v934 A c) (v935 A c) (eb0 A c) (eb1 A c)
def v974 (A : In F) (c : Dev nD) : FVec F S512x512 .bf16 := k0_pay59 (v2 c) v77 (v932 A c) (v934 A c)
def v993 (A : In F) (c : Dev nD) : FVec F S512x1024 .f32 := (k0_pay60 (v2 c) v77 (v932 A c) (v934 A c) (v963 A c) (v974 A c) (eb2 A c) (eb3 A c))
/-- A partial sum sent on. -/
def sl2 (A : In F) (c : Dev nD) : Vec F S1x512x1024 .bf16 := (k0_pay61 (v993 A c) (sl1 A (nxt c)))
def resT (A : In F) (c : Dev nD) : Vec F S512x1024 .f32 := (k0_pay62 (v180 A c) (sr2 A (prv c)))
def resB (A : In F) (c : Dev nD) : Vec F S512x1024 .f32 := k0_pay1 (v243 A c) (sl2 A (nxt c))

/-- The blocks that travel. -/
def vals (A : In F) : Vals F := ⟨xr A, wr A, xl A, wl A, ![sr0 A, sr1 A, sr2 A], ![sl0 A, sl1 A, sl2 A]⟩

section Whole
variable (A : In F) (c : Dev nD)

theorem zeros2 : (![0, 0] : Fin 2 → ℕ) = fun _ => 0 := funext fun a => by fin_cases a <;> rfl
theorem zeros3 : (![0, 0, 0] : Fin 3 → ℕ) = fun _ => 0 := funext fun a => by fin_cases a <;> rfl
/-- Loads of a whole staged argument read it. -/
theorem peek0 : ((Memref.whole cc0_stg0_0).slice (Rect.unit (s := S1024x512) ![0, 0] S1024x512.size inb_S1024x512_S1024x512_0_0) (fun _ => rfl)).view.read (Elt F) (A.x c) = A.x c :=
  Memref.read_access_unit_zero (Elt F) cc0_stg0_0 zeros2 _ (A.x c)
theorem peek1 : ((Memref.whole cc0_stg1_0).slice (Rect.unit (s := S512x16) ![0, 0] S512x16.size inb_S512x16_S512x16_0_0) (fun _ => rfl)).view.read (Elt F) (A.rw c) = A.rw c :=
  Memref.read_access_unit_zero (Elt F) cc0_stg1_0 zeros2 _ (A.rw c)
theorem peek3 : ((Memref.whole cc0_stg3_0).slice (Rect.unit (s := S4x512x1024) ![0, 0, 0] S4x512x1024.size inb_S4x512x1024_S4x512x1024_0_0_0) (fun _ => rfl)).view.read (Elt F) (A.ew c) = A.ew c :=
  Memref.read_access_unit_zero (Elt F) cc0_stg3_0 zeros3 _ (A.ew c)
/-- A store over the whole of the narrow copy leaves what is stored. -/
theorem pokeE (f : (Memref.whole cc0_scratch4).view.ty.Contents (Elt F)) (w : Vec F S4x512x1024 .bf16) :
    ((Memref.whole cc0_scratch4).access (Rect.unit (s := S4x512x1024) ![0, 0, 0] S4x512x1024.size inb_S4x512x1024_S4x512x1024_0_0_0)).write (Elt F) f w Finset.univ = w :=
  Memref.write_access_unit_zero_univ (Elt F) cc0_scratch4 zeros3 _ f w
end Whole

end Cert.Moe

end
-- ==== Proof.Run1.lean ====
/-
# The kernel's steps, parts 2 to 9

Each part takes the slots it touches and gives them back, filled or received.
-/
module

public import proofs.«01_k».proof.Proof.Values

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (A : In F) (K : Dev nD × Option (Bool × Fin 18) → ℕ) (c : Dev nD)

theorem part2 {Q : _ → sProp 𝕄} :
    iprop(holds c (Memref.whole cc0_stg0_0) (A.x c) ∗ free (F := F) c xR0 ∗ free (F := F) c xL0 ∗ free (F := F) c wR0)
      ⊢ iprop(((holds c (Memref.whole cc0_stg0_0) (A.x c) ∗ has c xR0 fullShare (xr A (back 0 c)) ∗ has c xL0 fullShare (xl A (fore 0 c)) ∗ has c wR0 fullShare (wr A (back 0 c))) -∗ Q (v67 A c)) -∗ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v22 A c) v27 (v29 A c) (v30 A c)) Q) := by
  rw [k0_part2_eq_skeleton]; unfold k0_part2_skel
  simp only [Prog.lift, Prog.bind_op, Prog.bind_ret, Prog.pure_eq_ret, Prog.bind_assoc]
  iintro ⟨HX, HxR0, HxL0, HwR0⟩ Hk
  iapply (step_peek c _ _ (fun _ => rfl) (peek0 A c)) $$ HX; iintro HX
  iapply (step_load_free c _ _ (fun _ => rfl)) $$ HxR0; iintro %_ HxR0
  iapply (step_store c _ _ (fun _ => rfl)) $$ HxR0; iintro HxR0
  iapply (step_load_free c _ _ (fun _ => rfl)) $$ HxL0; iintro %_ HxL0
  iapply (step_store c _ _ (fun _ => rfl)) $$ HxL0; iintro HxL0
  iapply (step_load_free c _ _ (fun _ => rfl)) $$ HwR0; iintro %_ HwR0
  iapply (step_store c _ _ (fun _ => rfl)) $$ HwR0; iintro HwR0
  rw [wp_ret]; imodintro
  iapply (Entails.of_eq (show Q (v67 A c) = Q (k0_pay10 (v22 A c) v27 (v29 A c) (v30 A c)) from rfl))
  iapply Hk
  isplitl [HX]; · iexact HX
  isplitl [HxR0]; · iexact HxR0
  isplitl [HxL0]; · iexact HxL0
  iexact HwR0

theorem part3 {Q : _ → sProp 𝕄} (v4 : BitVec 32) :
    iprop(facts (vals A) K ∗ free (F := F) c wL0 ∗ holds c (Memref.whole cc0_stg3_0) (A.ew c) ∗ (∃ f, holds (F := F) c (Memref.whole cc0_scratch4) f) ∗ Pay (F := F) 0 c ∗ has c xR0 fullShare (xr A (back 0 c)) ∗ has c wR0 fullShare (wr A (back 0 c)))
      ⊢ iprop(((has c wL0 fullShare (wl A (fore 0 c)) ∗ holds c (Memref.whole cc0_stg3_0) (A.ew c) ∗ holds c (Memref.whole cc0_scratch4) (ewb A c) ∗ Pay (F := F) 2 c ∗ has c xR0 hR (xr A (back 0 c)) ∗ Fly (F := F) 0 c ∗ has c wR0 hR (wr A (back 0 c)) ∗ Fly (F := F) 1 c) -∗ Q v77) -∗ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v4 (v67 A c)) Q) := by
  rw [k0_part3_eq_skeleton]; unfold k0_part3_skel
  simp only [Prog.lift, Prog.bind_op, Prog.bind_ret, Prog.pure_eq_ret, Prog.bind_assoc]
  iintro ⟨#HF, HwL0, HD, HE, HP, HxR0, HwR0⟩ Hk
  iapply (step_load_free c _ _ (fun _ => rfl)) $$ HwL0; iintro %_ HwL0
  iapply (step_store c _ _ (fun _ => rfl)) $$ HwL0; iintro HwL0
  iapply (step_peek c _ _ (fun _ => rfl) (peek3 A c)) $$ HD; iintro HD
  icases HE with ⟨%fE, HE⟩
  iapply (step_peek c _ _ (fun _ => rfl) rfl) $$ HE; iintro HE
  iapply (step_poke c _ _ (pokeE _ _)) $$ HE; iintro HE
  ihave HH := (has_halves c xR0 (xr A (back 0 c))) $$ HxR0
  icases HH with ⟨HH, HxR0⟩
  iapply (step_send (vals A) K 0 rfl rfl c _ (dev3_eq c) rfl rfl xR0 xR1 squeezes_S1x512x512_S512x512 hL (xr A (back 0 c)) rfl rfl rfl (by show has (nxt c) xR1 fullShare (xr A (back 0 (prv (nxt c)))) = _; rw [prv_nxt]; rfl)) $$ [HP HH]
  · isplitr; · iexact HF
    isplitl [HP]; · iexact HP
    iexact HH
  iintro ⟨HP, HFl0⟩
  ihave HH := (has_halves c wR0 (wr A (back 0 c))) $$ HwR0
  icases HH with ⟨HH, HwR0⟩
  iapply (step_send (vals A) K 1 rfl rfl c _ (dev4_eq c) rfl rfl wR0 wR1 squeezes_S1x512x16_S512x16 hL (wr A (back 0 c)) rfl rfl rfl (by show has (nxt c) wR1 fullShare (wr A (back 0 (prv (nxt c)))) = _; rw [prv_nxt]; rfl)) $$ [HP HH]
  · isplitr; · iexact HF
    isplitl [HP]; · iexact HP
    iexact HH
  iintro ⟨HP, HFl1⟩
  rw [wp_ret]; imodintro
  iapply (Entails.of_eq (show Q v77 = Q (iota .tc S512x16 32 [1] iota_S512x16_d1_w32) from rfl))
  iapply Hk
  isplitl [HwL0]; · iexact HwL0
  isplitl [HD]; · iexact HD
  isplitl [HE]; · iexact HE
  isplitl [HP]; · iexact HP
  isplitl [HxR0]; · iexact HxR0
  isplitl [HFl0]; · iexact HFl0
  isplitl [HwR0]; · iexact HwR0
  iexact HFl1

theorem part4 {Q : _ → sProp 𝕄} (v7 : BitVec 32) :
    iprop(facts (vals A) K ∗ Pay (F := F) 2 c ∗ has c xL0 fullShare (xl A (fore 0 c)) ∗ has c wL0 fullShare (wl A (fore 0 c)) ∗ has c xR0 hR (xr A (back 0 c)) ∗ has c wR0 hR (wr A (back 0 c)))
      ⊢ iprop(((Pay (F := F) 4 c ∗ has c xL0 hR (xl A (fore 0 c)) ∗ Fly (F := F) 2 c ∗ has c wL0 hR (wl A (fore 0 c)) ∗ Fly (F := F) 3 c ∗ has c xR0 hR (xr A (back 0 c)) ∗ has c wR0 hR (wr A (back 0 c))) -∗ Q ⟨(v119 A c), (v121 A c), (v125 A c), (v126 A c)⟩) -∗ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c (v2 c) v7 v77) Q) := by
  rw [k0_part4_eq_skeleton]; unfold k0_part4_skel
  simp only [Prog.lift, Prog.bind_op, Prog.bind_ret, Prog.pure_eq_ret, Prog.bind_assoc]
  iintro ⟨#HF, HP, HxL0, HwL0, HxR0, HwR0⟩ Hk
  ihave HH := (has_halves c xL0 (xl A (fore 0 c))) $$ HxL0
  icases HH with ⟨HH, HxL0⟩
  iapply (step_send (vals A) K 2 rfl rfl c _ (dev5_eq c) rfl rfl xL0 xL1 squeezes_S1x512x512_S512x512 hL (xl A (fore 0 c)) rfl rfl rfl (by show has (prv c) xL1 fullShare (xl A (fore 0 (nxt (prv c)))) = _; rw [nxt_prv]; rfl)) $$ [HP HH]
  · isplitr; · iexact HF
    isplitl [HP]; · iexact HP
    iexact HH
  iintro ⟨HP, HFl2⟩
  ihave HH := (has_halves c wL0 (wl A (fore 0 c))) $$ HwL0
  icases HH with ⟨HH, HwL0⟩
  iapply (step_send (vals A) K 3 rfl rfl c _ (dev6_eq c) rfl rfl wL0 wL1 squeezes_S1x512x16_S512x16 hL (wl A (fore 0 c)) rfl rfl rfl (by show has (prv c) wL1 fullShare (wl A (fore 0 (nxt (prv c)))) = _; rw [nxt_prv]; rfl)) $$ [HP HH]
  · isplitr; · iexact HF
    isplitl [HP]; · iexact HP
    iexact HH
  iintro ⟨HP, HFl3⟩
  iapply (step_load c _ _ (fun _ => rfl)) $$ HxR0; iintro HxR0
  iapply (step_load c _ _ (fun _ => rfl)) $$ HwR0; iintro HwR0
  rw [wp_ret]; imodintro
  iapply (Entails.of_eq (show Q ⟨(v119 A c), (v121 A c), (v125 A c), (v126 A c)⟩ = Q ⟨k0_pay13 (xr A (back 0 c)), k0_pay14 (wr A (back 0 c)), k0_pay15 (v2 c) v77, k0_pay16 (F := F)⟩ from rfl))
  iapply Hk
  isplitl [HP]; · iexact HP
  isplitl [HxL0]; · iexact HxL0
  isplitl [HFl2]; · iexact HFl2
  isplitl [HwL0]; · iexact HwL0
  isplitl [HFl3]; · iexact HFl3
  isplitl [HxR0]; · iexact HxR0
  iexact HwR0

theorem part5 {Q : _ → sProp 𝕄} :
    iprop(holds c (Memref.whole cc0_scratch4) (ewb A c))
      ⊢ iprop(((holds c (Memref.whole cc0_scratch4) (ewb A c)) -∗ Q (v165 A c)) -∗ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v119 A c) (v121 A c) (v125 A c) (v126 A c)) Q) := by
  rw [k0_part5_eq_skeleton]; unfold k0_part5_skel
  simp only [Prog.lift, Prog.bind_op, Prog.bind_ret, Prog.pure_eq_ret, Prog.bind_assoc]
  iintro HE Hk
  iapply (step_peek c _ _ (fun _ => rfl) (show _ = eb0 A c from rfl)) $$ HE; iintro HE
  iapply (step_peek c _ _ (fun _ => rfl) (show _ = eb1 A c from rfl)) $$ HE; iintro HE
  iapply (step_peek c _ _ (fun _ => rfl) (show _ = eb2 A c from rfl)) $$ HE; iintro HE
  rw [wp_ret]; imodintro
  iapply (Entails.of_eq (show Q (v165 A c) = Q (k0_pay17 (v2 c) v77 (v119 A c) (v121 A c) (v125 A c) (v126 A c) (eb0 A c) (eb1 A c) (eb2 A c)) from rfl))
  iapply Hk
  iexact HE

theorem part6 {Q : _ → sProp 𝕄} :
    iprop(holds c (Memref.whole cc0_scratch4) (ewb A c) ∗ has c xL0 hR (xl A (fore 0 c)) ∗ has c wL0 hR (wl A (fore 0 c)))
      ⊢ iprop(((holds c (Memref.whole cc0_scratch4) (ewb A c) ∗ has c xL0 hR (xl A (fore 0 c)) ∗ has c wL0 hR (wl A (fore 0 c))) -∗ Q ⟨(v180 A c), (v182 A c), (v184 A c), (v198 A c), (v201 A c)⟩) -∗ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v119 A c) (v121 A c) (v165 A c)) Q) := by
  rw [k0_part6_eq_skeleton]; unfold k0_part6_skel
  simp only [Prog.lift, Prog.bind_op, Prog.bind_ret, Prog.pure_eq_ret, Prog.bind_assoc]
  iintro ⟨HE, HxL0, HwL0⟩ Hk
  iapply (step_peek c _ _ (fun _ => rfl) (show _ = eb3 A c from rfl)) $$ HE; iintro HE
  iapply (step_load c _ _ (fun _ => rfl)) $$ HxL0; iintro HxL0
  iapply (step_load c _ _ (fun _ => rfl)) $$ HwL0; iintro HwL0
  iapply (step_peek c _ _ (fun _ => rfl) (show _ = eb0 A c from rfl)) $$ HE; iintro HE
  rw [wp_ret]; imodintro
  iapply (Entails.of_eq (show Q ⟨(v180 A c), (v182 A c), (v184 A c), (v198 A c), (v201 A c)⟩ = Q ⟨k0_pay18 (v2 c) v77 (v119 A c) (v121 A c) (v165 A c) (eb3 A c), k0_pay19 (xl A (fore 0 c)), k0_pay20 (wl A (fore 0 c)), k0_pay21 (v2 c) v77 (xl A (fore 0 c)) (wl A (fore 0 c)) (eb0 A c), k0_pay22 (v2 c)⟩ from rfl))
  iapply Hk
  isplitl [HE]; · iexact HE
  isplitl [HxL0]; · iexact HxL0
  iexact HwL0

theorem part7 {Q : _ → sProp 𝕄} :
    iprop(holds c (Memref.whole cc0_scratch4) (ewb A c))
      ⊢ iprop(((holds c (Memref.whole cc0_scratch4) (ewb A c)) -∗ Q ⟨(v228 A c), (v239 A c), (v240 A c)⟩) -∗ wp frame (wpE (defs₀ (F := F)) 𝒱₀ (c : Thread nD τ) none) Set.univ
          (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v182 A c) (v184 A c) (v198 A c) (v201 A c)) Q) := by
  rw [k0_part7_eq_skeleton]; unfold k0_part7_skel
  simp only [Prog.lift, Prog.bind_op, Prog.bind_ret, Prog.pure_eq_ret, Prog.bind_assoc]
  iintro HE Hk
  iapply (step_peek c _ _ (fun _ => rfl) (show _ = eb1 A c from rfl)) $$ HE; iintro HE
  iapply (step_peek c _ _ (fun _ => rfl) (show _ = eb2 A c from rfl)) $$ HE; iintro HE
  iapply (step_peek c _ _ (fun _ => rfl) (show _ = eb3 A c from rfl)) $$ HE; iintro HE
  rw [wp_ret]; imodintro
  iapply (Entails.of_eq (show Q ⟨(v228 A c), (v239 A c), (v240 A c)⟩ = Q ⟨k0_pay23 (v2 c) v77 (v182 A c) (v184 A c) (v198 A c) (v201 A c) (eb1 A c) (eb2 A c), k0_pay24 (v2 c) v77 (v182 A c) (v184 A c), (eb3 A c)⟩ from rfl))
  iapply Hk
  iexact HE

theorem part8 {Q : _ → sProp 𝕄} (v4 : BitVec 32) :
    iprop(facts (vals A) K ∗ Pay (F := F) 4 c ∗ Clk (F := F) 0 c ∗ Fly (F := F) 0 c ∗ Fly (F := F) 1 c)
      ⊢ iprop((∀ w, (Pay (F := F) 4 c ∗ Mid (F := F) 1 c ∗ has c xR0 hL (xr A (back 0 c)) ∗ has c xR1 fullShare (xr A (back 1 c)) ∗ has c wR0 hL (wr A (back 0 c))) -∗ Q ⟨(v243 A c), w⟩) -∗ wp frame (wpE (defs₀ (F := F)) 𝒱₀ (c : Thread nD τ) none) Set.univ
          (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 v4 (v228 A c) (v239 A c) (v240 A c)) Q) := by
  rw [k0_part8_eq_skeleton]; unfold k0_part8_skel
  simp only [Prog.lift, Prog.bind_op, Prog.bind_ret, Prog.pure_eq_ret, Prog.bind_assoc]
  iintro ⟨#HF, HP, HC, HFl0, HFl1⟩ Hk
  iapply (step_wait_send (vals A) K 0 rfl 4 c rfl (src := xR1.squeeze S512x512 squeezes_S1x512x512_S512x512) (dst := xR0.squeeze S512x512 squeezes_S1x512x512_S512x512) rfl) $$ [HC HFl0 HP]
  · isplitr; · iexact HF
    isplitl [HC]; · iexact HC
    isplitl [HFl0]; · iexact HFl0
    iexact HP
  iintro ⟨HC, HLxR0, HP⟩
  ihave HLxR0 := (Entails.of_eq (show sendPay (vals A) 0 c = has c xR0 hL (xr A (back 0 c)) from rfl)) $$ HLxR0
  iapply (step_wait_recv (vals A) K 0 rfl 4 (by decide) c rfl (src := xR0.squeeze S512x512 squeezes_S1x512x512_S512x512) (dst := xR1.squeeze S512x512 squeezes_S1x512x512_S512x512) rfl) $$ [HC HP]
  · isplitr; · iexact HF
    isplitl [HC]; · iexact HC
    iexact HP
  iintro ⟨HC, HxR1, HP⟩
  ihave HxR1 := (Entails.of_eq (show recvPay (vals A) 0 c = has c xR1 fullShare (xr A (back 1 c)) from rfl)) $$ HxR1
  iapply (step_wait_send (vals A) K 1 rfl 4 c rfl (src := wR1.squeeze S512x16 squeezes_S1x512x16_S512x16) (dst := wR0.squeeze S512x16 squeezes_S1x512x16_S512x16) rfl) $$ [HC HFl1 HP]
  · isplitr; · iexact HF
    isplitl [HC]; · iexact HC
    isplitl [HFl1]; · iexact HFl1
    iexact HP
  iintro ⟨HC, HLwR0, HP⟩
  ihave HLwR0 := (Entails.of_eq (show sendPay (vals A) 1 c = has c wR0 hL (wr A (back 0 c)) from rfl)) $$ HLwR0
  rw [wp_ret]; imodintro
  iapply (Entails.of_eq (show Q ⟨(v243 A c), 1#32⟩ = Q ⟨k0_pay25 (v228 A c) (v239 A c) (v240 A c), 1#32⟩ from rfl))
  iapply Hk
  isplitl [HP]; · iexact HP
  isplitl [HC]; · iexact HC
  isplitl [HLxR0]; · iexact HLxR0
  isplitl [HxR1]; · iexact HxR1
  iexact HLwR0

theorem part9 {Q : _ → sProp 𝕄} (v4 : BitVec 32) (c1_i32_188 : BitVec 32) :
    iprop(facts (vals A) K ∗ Pay (F := F) 4 c ∗ Mid (F := F) 1 c ∗ has c xR1 fullShare (xr A (back 1 c)))
      ⊢ iprop(((Pay (F := F) 6 c ∗ Clk (F := F) 2 c ∗ has c wR1 hR (wr A (back 1 c)) ∗ has c xR1 hR (xr A (back 1 c)) ∗ Fly (F := F) 4 c ∗ Fly (F := F) 5 c) -∗ Q (v292 A c)) -∗ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v4 c1_i32_188) Q) := by
  rw [k0_part9_eq_skeleton]; unfold k0_part9_skel
  simp only [Prog.lift, Prog.bind_op, Prog.bind_ret, Prog.pure_eq_ret, Prog.bind_assoc]
  iintro ⟨#HF, HP, HC, HxR1⟩ Hk
  iapply (step_wait_recv (vals A) K 1 rfl 4 (by decide) c rfl (src := wR0.squeeze S512x16 squeezes_S1x512x16_S512x16) (dst := wR1.squeeze S512x16 squeezes_S1x512x16_S512x16) rfl) $$ [HC HP]
  · isplitr; · iexact HF
    isplitl [HC]; · iexact HC
    iexact HP
  iintro ⟨HC, HwR1, HP⟩
  ihave HwR1 := (Entails.of_eq (show recvPay (vals A) 1 c = has c wR1 fullShare (wr A (back 1 c)) from rfl)) $$ HwR1
  ihave HH := (has_halves c xR1 (xr A (back 1 c))) $$ HxR1
  icases HH with ⟨HH, HxR1⟩
  iapply (step_send (vals A) K 4 rfl rfl c _ (dev7_eq c) rfl rfl xR1 xR2 squeezes_S1x512x512_S512x512 hL (xr A (back 1 c)) rfl rfl rfl (by show has (nxt c) xR2 fullShare (xr A (back 1 (prv (nxt c)))) = _; rw [prv_nxt]; rfl)) $$ [HP HH]
  · isplitr; · iexact HF
    isplitl [HP]; · iexact HP
    iexact HH
  iintro ⟨HP, HFl4⟩
  ihave HH := (has_halves c wR1 (wr A (back 1 c))) $$ HwR1
  icases HH with ⟨HH, HwR1⟩
  iapply (step_send (vals A) K 5 rfl rfl c _ (dev8_eq c) rfl rfl wR1 wR2 squeezes_S1x512x16_S512x16 hL (wr A (back 1 c)) rfl rfl rfl (by show has (nxt c) wR2 fullShare (wr A (back 1 (prv (nxt c)))) = _; rw [prv_nxt]; rfl)) $$ [HP HH]
  · isplitr; · iexact HF
    isplitl [HP]; · iexact HP
    iexact HH
  iintro ⟨HP, HFl5⟩
  iapply (step_load c _ _ (fun _ => rfl)) $$ HxR1; iintro HxR1
  rw [wp_ret]; imodintro
  iapply (Entails.of_eq (show Q (v292 A c) = Q (xr A (back 1 c)) from rfl))
  iapply Hk
  isplitl [HP]; · iexact HP
  isplitl [HC]; · iexact HC
  isplitl [HwR1]; · iexact HwR1
  isplitl [HxR1]; · iexact HxR1
  isplitl [HFl4]; · iexact HFl4
  iexact HFl5

end Parts

end Cert.Moe

end
-- ==== Proof.Run2.lean ====
/-
# The kernel's steps, parts 10 to 19

Each part takes the slots it touches and gives them back, filled or received.
-/
module

public import proofs.«01_k».proof.Proof.Values

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (A : In F) (K : Dev nD × Option (Bool × Fin 18) → ℕ) (c : Dev nD)

theorem part10 {Q : _ → sProp 𝕄} :
    iprop(has c wR1 hR (wr A (back 1 c)) ∗ holds c (Memref.whole cc0_scratch4) (ewb A c))
      ⊢ iprop(((has c wR1 hR (wr A (back 1 c)) ∗ holds c (Memref.whole cc0_scratch4) (ewb A c)) -∗ Q ⟨(v293 A c), (v295 A c), (v324 A c), (v330 A c)⟩) -∗ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v292 A c)) Q) := by
  rw [k0_part10_eq_skeleton]; unfold k0_part10_skel
  simp only [Prog.lift, Prog.bind_op, Prog.bind_ret, Prog.pure_eq_ret, Prog.bind_assoc]
  iintro ⟨HwR1, HE⟩ Hk
  iapply (step_load c _ _ (fun _ => rfl)) $$ HwR1; iintro HwR1
  iapply (step_peek c _ _ (fun _ => rfl) (show _ = eb0 A c from rfl)) $$ HE; iintro HE
  iapply (step_peek c _ _ (fun _ => rfl) (show _ = eb1 A c from rfl)) $$ HE; iintro HE
  rw [wp_ret]; imodintro
  iapply (Entails.of_eq (show Q ⟨(v293 A c), (v295 A c), (v324 A c), (v330 A c)⟩ = Q ⟨k0_pay26 (v292 A c), k0_pay27 (wr A (back 1 c)), k0_pay28 (v2 c) v77 (v292 A c) (wr A (back 1 c)) (eb0 A c) (eb1 A c), k0_pay29 (v2 c) v77 (wr A (back 1 c))⟩ from rfl))
  iapply Hk
  isplitl [HwR1]; · iexact HwR1
  iexact HE

theorem part11 {Q : _ → sProp 𝕄} (v4 : BitVec 32) :
    iprop(holds c (Memref.whole cc0_scratch4) (ewb A c) ∗ free (F := F) c sR0)
      ⊢ iprop(((holds c (Memref.whole cc0_scratch4) (ewb A c) ∗ has c sR0 fullShare (sr0 A c)) -∗ Q ⟨⟩) -∗ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v4 v77 (v293 A c) (v295 A c) (v324 A c) (v330 A c)) Q) := by
  rw [k0_part11_eq_skeleton]; unfold k0_part11_skel
  simp only [Prog.lift, Prog.bind_op, Prog.bind_ret, Prog.pure_eq_ret, Prog.bind_assoc]
  iintro ⟨HE, HsR0⟩ Hk
  iapply (step_peek c _ _ (fun _ => rfl) (show _ = eb2 A c from rfl)) $$ HE; iintro HE
  iapply (step_peek c _ _ (fun _ => rfl) (show _ = eb3 A c from rfl)) $$ HE; iintro HE
  iapply (step_load_free c _ _ (fun _ => rfl)) $$ HsR0; iintro %_ HsR0
  iapply (step_store c _ _ (fun _ => rfl)) $$ HsR0; iintro HsR0
  rw [wp_ret]; imodintro
  iapply Hk
  isplitl [HE]; · iexact HE
  iexact HsR0

theorem part12 {Q : _ → sProp 𝕄} (v7 : BitVec 32) :
    iprop(facts (vals A) K ∗ Pay (F := F) 6 c ∗ has c sR0 fullShare (sr0 A c) ∗ Clk (F := F) 2 c ∗ Fly (F := F) 2 c ∗ Fly (F := F) 3 c)
      ⊢ iprop(((Pay (F := F) 7 c ∗ Fly (F := F) 6 c ∗ Mid (F := F) 3 c ∗ has c xL0 hL (xl A (fore 0 c)) ∗ has c xL1 fullShare (xl A (fore 1 c)) ∗ has c wL0 hL (wl A (fore 0 c))) -∗ Q ⟨⟩) -∗ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v7) Q) := by
  rw [k0_part12_eq_skeleton]; unfold k0_part12_skel
  simp only [Prog.lift, Prog.bind_op, Prog.bind_ret, Prog.pure_eq_ret, Prog.bind_assoc]
  iintro ⟨#HF, HP, HsR0, HC, HFl2, HFl3⟩ Hk
  iapply (step_send (vals A) K 6 rfl rfl c _ (dev9_eq c) rfl rfl sR0 rR0 squeezes_S1x512x1024_S512x1024 fullShare (sr0 A c) rfl rfl rfl (by show has (nxt c) rR0 fullShare (sr0 A (prv (nxt c))) = _; rw [prv_nxt]; rfl)) $$ [HP HsR0]
  · isplitr; · iexact HF
    isplitl [HP]; · iexact HP
    iexact HsR0
  iintro ⟨HP, HFl6⟩
  iapply (step_wait_send (vals A) K 2 rfl 7 c rfl (src := xL1.squeeze S512x512 squeezes_S1x512x512_S512x512) (dst := xL0.squeeze S512x512 squeezes_S1x512x512_S512x512) rfl) $$ [HC HFl2 HP]
  · isplitr; · iexact HF
    isplitl [HC]; · iexact HC
    isplitl [HFl2]; · iexact HFl2
    iexact HP
  iintro ⟨HC, HLxL0, HP⟩
  ihave HLxL0 := (Entails.of_eq (show sendPay (vals A) 2 c = has c xL0 hL (xl A (fore 0 c)) from rfl)) $$ HLxL0
  iapply (step_wait_recv (vals A) K 2 rfl 7 (by decide) c rfl (src := xL0.squeeze S512x512 squeezes_S1x512x512_S512x512) (dst := xL1.squeeze S512x512 squeezes_S1x512x512_S512x512) rfl) $$ [HC HP]
  · isplitr; · iexact HF
    isplitl [HC]; · iexact HC
    iexact HP
  iintro ⟨HC, HxL1, HP⟩
  ihave HxL1 := (Entails.of_eq (show recvPay (vals A) 2 c = has c xL1 fullShare (xl A (fore 1 c)) from rfl)) $$ HxL1
  iapply (step_wait_send (vals A) K 3 rfl 7 c rfl (src := wL1.squeeze S512x16 squeezes_S1x512x16_S512x16) (dst := wL0.squeeze S512x16 squeezes_S1x512x16_S512x16) rfl) $$ [HC HFl3 HP]
  · isplitr; · iexact HF
    isplitl [HC]; · iexact HC
    isplitl [HFl3]; · iexact HFl3
    iexact HP
  iintro ⟨HC, HLwL0, HP⟩
  ihave HLwL0 := (Entails.of_eq (show sendPay (vals A) 3 c = has c wL0 hL (wl A (fore 0 c)) from rfl)) $$ HLwL0
  rw [wp_ret]; imodintro
  iapply Hk
  isplitl [HP]; · iexact HP
  isplitl [HFl6]; · iexact HFl6
  isplitl [HC]; · iexact HC
  isplitl [HLxL0]; · iexact HLxL0
  isplitl [HxL1]; · iexact HxL1
  iexact HLwL0

theorem part13 {Q : _ → sProp 𝕄} (v7 : BitVec 32) :
    iprop(facts (vals A) K ∗ Pay (F := F) 7 c ∗ Mid (F := F) 3 c ∗ has c xL1 fullShare (xl A (fore 1 c)))
      ⊢ iprop(((Pay (F := F) 9 c ∗ Clk (F := F) 4 c ∗ has c wL1 hR (wl A (fore 1 c)) ∗ has c xL1 hR (xl A (fore 1 c)) ∗ Fly (F := F) 7 c ∗ Fly (F := F) 8 c) -∗ Q ⟨⟩) -∗ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v7) Q) := by
  rw [k0_part13_eq_skeleton]; unfold k0_part13_skel
  simp only [Prog.lift, Prog.bind_op, Prog.bind_ret, Prog.pure_eq_ret, Prog.bind_assoc]
  iintro ⟨#HF, HP, HC, HxL1⟩ Hk
  iapply (step_wait_recv (vals A) K 3 rfl 7 (by decide) c rfl (src := wL0.squeeze S512x16 squeezes_S1x512x16_S512x16) (dst := wL1.squeeze S512x16 squeezes_S1x512x16_S512x16) rfl) $$ [HC HP]
  · isplitr; · iexact HF
    isplitl [HC]; · iexact HC
    iexact HP
  iintro ⟨HC, HwL1, HP⟩
  ihave HwL1 := (Entails.of_eq (show recvPay (vals A) 3 c = has c wL1 fullShare (wl A (fore 1 c)) from rfl)) $$ HwL1
  ihave HH := (has_halves c xL1 (xl A (fore 1 c))) $$ HxL1
  icases HH with ⟨HH, HxL1⟩
  iapply (step_send (vals A) K 7 rfl rfl c _ (dev10_eq c) rfl rfl xL1 xL2 squeezes_S1x512x512_S512x512 hL (xl A (fore 1 c)) rfl rfl rfl (by show has (prv c) xL2 fullShare (xl A (fore 1 (nxt (prv c)))) = _; rw [nxt_prv]; rfl)) $$ [HP HH]
  · isplitr; · iexact HF
    isplitl [HP]; · iexact HP
    iexact HH
  iintro ⟨HP, HFl7⟩
  ihave HH := (has_halves c wL1 (wl A (fore 1 c))) $$ HwL1
  icases HH with ⟨HH, HwL1⟩
  iapply (step_send (vals A) K 8 rfl rfl c _ (dev11_eq c) rfl rfl wL1 wL2 squeezes_S1x512x16_S512x16 hL (wl A (fore 1 c)) rfl rfl rfl (by show has (prv c) wL2 fullShare (wl A (fore 1 (nxt (prv c)))) = _; rw [nxt_prv]; rfl)) $$ [HP HH]
  · isplitr; · iexact HF
    isplitl [HP]; · iexact HP
    iexact HH
  iintro ⟨HP, HFl8⟩
  rw [wp_ret]; imodintro
  iapply Hk
  isplitl [HP]; · iexact HP
  isplitl [HC]; · iexact HC
  isplitl [HwL1]; · iexact HwL1
  isplitl [HxL1]; · iexact HxL1
  isplitl [HFl7]; · iexact HFl7
  iexact HFl8

theorem part14 {Q : _ → sProp 𝕄} :
    iprop(has c xL1 hR (xl A (fore 1 c)) ∗ has c wL1 hR (wl A (fore 1 c)) ∗ holds c (Memref.whole cc0_scratch4) (ewb A c))
      ⊢ iprop(((has c xL1 hR (xl A (fore 1 c)) ∗ has c wL1 hR (wl A (fore 1 c)) ∗ holds c (Memref.whole cc0_scratch4) (ewb A c)) -∗ Q ⟨(v418 A c), (v420 A c), (v449 A c), (v453 A c), (cst_347 (F := F))⟩) -∗ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77) Q) := by
  rw [k0_part14_eq_skeleton]; unfold k0_part14_skel
  simp only [Prog.lift, Prog.bind_op, Prog.bind_ret, Prog.pure_eq_ret, Prog.bind_assoc]
  iintro ⟨HxL1, HwL1, HE⟩ Hk
  iapply (step_load c _ _ (fun _ => rfl)) $$ HxL1; iintro HxL1
  iapply (step_load c _ _ (fun _ => rfl)) $$ HwL1; iintro HwL1
  iapply (step_peek c _ _ (fun _ => rfl) (show _ = eb0 A c from rfl)) $$ HE; iintro HE
  iapply (step_peek c _ _ (fun _ => rfl) (show _ = eb1 A c from rfl)) $$ HE; iintro HE
  rw [wp_ret]; imodintro
  iapply (Entails.of_eq (show Q ⟨(v418 A c), (v420 A c), (v449 A c), (v453 A c), (cst_347 (F := F))⟩ = Q ⟨k0_pay31 (xl A (fore 1 c)), k0_pay32 (wl A (fore 1 c)), k0_pay33 (v2 c) v77 (xl A (fore 1 c)) (wl A (fore 1 c)) (eb0 A c) (eb1 A c), k0_pay34 (v2 c) v77, (Scalar.ofBits .f32 0x00000000#32)⟩ from rfl))
  iapply Hk
  isplitl [HxL1]; · iexact HxL1
  isplitl [HwL1]; · iexact HwL1
  iexact HE

theorem part15 {Q : _ → sProp 𝕄} (v7 : BitVec 32) :
    iprop(holds c (Memref.whole cc0_scratch4) (ewb A c) ∗ free (F := F) c sL0)
      ⊢ iprop(((holds c (Memref.whole cc0_scratch4) (ewb A c) ∗ has c sL0 fullShare (sl0 A c)) -∗ Q ⟨⟩) -∗ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v7 v77 (v418 A c) (v420 A c) (v449 A c) (v453 A c) (cst_347 (F := F))) Q) := by
  rw [k0_part15_eq_skeleton]; unfold k0_part15_skel
  simp only [Prog.lift, Prog.bind_op, Prog.bind_ret, Prog.pure_eq_ret, Prog.bind_assoc]
  iintro ⟨HE, HsL0⟩ Hk
  iapply (step_peek c _ _ (fun _ => rfl) (show _ = eb2 A c from rfl)) $$ HE; iintro HE
  iapply (step_peek c _ _ (fun _ => rfl) (show _ = eb3 A c from rfl)) $$ HE; iintro HE
  iapply (step_load_free c _ _ (fun _ => rfl)) $$ HsL0; iintro %_ HsL0
  iapply (step_store c _ _ (fun _ => rfl)) $$ HsL0; iintro HsL0
  rw [wp_ret]; imodintro
  iapply Hk
  isplitl [HE]; · iexact HE
  iexact HsL0

theorem part16 {Q : _ → sProp 𝕄} (v4 : BitVec 32) :
    iprop(facts (vals A) K ∗ Pay (F := F) 9 c ∗ has c sL0 fullShare (sl0 A c) ∗ Clk (F := F) 4 c ∗ Fly (F := F) 4 c ∗ Fly (F := F) 5 c)
      ⊢ iprop(((Pay (F := F) 10 c ∗ Fly (F := F) 9 c ∗ Mid (F := F) 5 c ∗ has c xR1 hL (xr A (back 1 c)) ∗ has c xR2 fullShare (xr A (back 2 c)) ∗ has c wR1 hL (wr A (back 1 c))) -∗ Q ⟨⟩) -∗ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v4) Q) := by
  rw [k0_part16_eq_skeleton]; unfold k0_part16_skel
  simp only [Prog.lift, Prog.bind_op, Prog.bind_ret, Prog.pure_eq_ret, Prog.bind_assoc]
  iintro ⟨#HF, HP, HsL0, HC, HFl4, HFl5⟩ Hk
  iapply (step_send (vals A) K 9 rfl rfl c _ (dev12_eq c) rfl rfl sL0 rL0 squeezes_S1x512x1024_S512x1024 fullShare (sl0 A c) rfl rfl rfl (by show has (prv c) rL0 fullShare (sl0 A (nxt (prv c))) = _; rw [nxt_prv]; rfl)) $$ [HP HsL0]
  · isplitr; · iexact HF
    isplitl [HP]; · iexact HP
    iexact HsL0
  iintro ⟨HP, HFl9⟩
  iapply (step_wait_send (vals A) K 4 rfl 10 c rfl (src := xR2.squeeze S512x512 squeezes_S1x512x512_S512x512) (dst := xR1.squeeze S512x512 squeezes_S1x512x512_S512x512) rfl) $$ [HC HFl4 HP]
  · isplitr; · iexact HF
    isplitl [HC]; · iexact HC
    isplitl [HFl4]; · iexact HFl4
    iexact HP
  iintro ⟨HC, HLxR1, HP⟩
  ihave HLxR1 := (Entails.of_eq (show sendPay (vals A) 4 c = has c xR1 hL (xr A (back 1 c)) from rfl)) $$ HLxR1
  iapply (step_wait_recv (vals A) K 4 rfl 10 (by decide) c rfl (src := xR1.squeeze S512x512 squeezes_S1x512x512_S512x512) (dst := xR2.squeeze S512x512 squeezes_S1x512x512_S512x512) rfl) $$ [HC HP]
  · isplitr; · iexact HF
    isplitl [HC]; · iexact HC
    iexact HP
  iintro ⟨HC, HxR2, HP⟩
  ihave HxR2 := (Entails.of_eq (show recvPay (vals A) 4 c = has c xR2 fullShare (xr A (back 2 c)) from rfl)) $$ HxR2
  iapply (step_wait_send (vals A) K 5 rfl 10 c rfl (src := wR2.squeeze S512x16 squeezes_S1x512x16_S512x16) (dst := wR1.squeeze S512x16 squeezes_S1x512x16_S512x16) rfl) $$ [HC HFl5 HP]
  · isplitr; · iexact HF
    isplitl [HC]; · iexact HC
    isplitl [HFl5]; · iexact HFl5
    iexact HP
  iintro ⟨HC, HLwR1, HP⟩
  ihave HLwR1 := (Entails.of_eq (show sendPay (vals A) 5 c = has c wR1 hL (wr A (back 1 c)) from rfl)) $$ HLwR1
  rw [wp_ret]; imodintro
  iapply Hk
  isplitl [HP]; · iexact HP
  isplitl [HFl9]; · iexact HFl9
  isplitl [HC]; · iexact HC
  isplitl [HLxR1]; · iexact HLxR1
  isplitl [HxR2]; · iexact HxR2
  iexact HLwR1

theorem part17 {Q : _ → sProp 𝕄} (v4 : BitVec 32) :
    iprop(facts (vals A) K ∗ Pay (F := F) 10 c ∗ Mid (F := F) 5 c ∗ has c xR2 fullShare (xr A (back 2 c)))
      ⊢ iprop(((Pay (F := F) 12 c ∗ Clk (F := F) 6 c ∗ has c wR2 hR (wr A (back 2 c)) ∗ has c xR2 hR (xr A (back 2 c)) ∗ Fly (F := F) 10 c ∗ Fly (F := F) 11 c) -∗ Q ⟨⟩) -∗ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v4) Q) := by
  rw [k0_part17_eq_skeleton]; unfold k0_part17_skel
  simp only [Prog.lift, Prog.bind_op, Prog.bind_ret, Prog.pure_eq_ret, Prog.bind_assoc]
  iintro ⟨#HF, HP, HC, HxR2⟩ Hk
  iapply (step_wait_recv (vals A) K 5 rfl 10 (by decide) c rfl (src := wR1.squeeze S512x16 squeezes_S1x512x16_S512x16) (dst := wR2.squeeze S512x16 squeezes_S1x512x16_S512x16) rfl) $$ [HC HP]
  · isplitr; · iexact HF
    isplitl [HC]; · iexact HC
    iexact HP
  iintro ⟨HC, HwR2, HP⟩
  ihave HwR2 := (Entails.of_eq (show recvPay (vals A) 5 c = has c wR2 fullShare (wr A (back 2 c)) from rfl)) $$ HwR2
  ihave HH := (has_halves c xR2 (xr A (back 2 c))) $$ HxR2
  icases HH with ⟨HH, HxR2⟩
  iapply (step_send (vals A) K 10 rfl rfl c _ (dev13_eq c) rfl rfl xR2 xR3 squeezes_S1x512x512_S512x512 hL (xr A (back 2 c)) rfl rfl rfl (by show has (nxt c) xR3 fullShare (xr A (back 2 (prv (nxt c)))) = _; rw [prv_nxt]; rfl)) $$ [HP HH]
  · isplitr; · iexact HF
    isplitl [HP]; · iexact HP
    iexact HH
  iintro ⟨HP, HFl10⟩
  ihave HH := (has_halves c wR2 (wr A (back 2 c))) $$ HwR2
  icases HH with ⟨HH, HwR2⟩
  iapply (step_send (vals A) K 11 rfl rfl c _ (dev14_eq c) rfl rfl wR2 wR3 squeezes_S1x512x16_S512x16 hL (wr A (back 2 c)) rfl rfl rfl (by show has (nxt c) wR3 fullShare (wr A (back 2 (prv (nxt c)))) = _; rw [prv_nxt]; rfl)) $$ [HP HH]
  · isplitr; · iexact HF
    isplitl [HP]; · iexact HP
    iexact HH
  iintro ⟨HP, HFl11⟩
  rw [wp_ret]; imodintro
  iapply Hk
  isplitl [HP]; · iexact HP
  isplitl [HC]; · iexact HC
  isplitl [HwR2]; · iexact HwR2
  isplitl [HxR2]; · iexact HxR2
  isplitl [HFl10]; · iexact HFl10
  iexact HFl11

theorem part18 {Q : _ → sProp 𝕄} :
    iprop(has c xR2 hR (xr A (back 2 c)) ∗ has c wR2 hR (wr A (back 2 c)) ∗ holds c (Memref.whole cc0_scratch4) (ewb A c))
      ⊢ iprop(((has c xR2 hR (xr A (back 2 c)) ∗ has c wR2 hR (wr A (back 2 c)) ∗ holds c (Memref.whole cc0_scratch4) (ewb A c)) -∗ Q ⟨(v543 A c), (v545 A c), (v574 A c), (v577 A c)⟩) -∗ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77) Q) := by
  rw [k0_part18_eq_skeleton]; unfold k0_part18_skel
  simp only [Prog.lift, Prog.bind_op, Prog.bind_ret, Prog.pure_eq_ret, Prog.bind_assoc]
  iintro ⟨HxR2, HwR2, HE⟩ Hk
  iapply (step_load c _ _ (fun _ => rfl)) $$ HxR2; iintro HxR2
  iapply (step_load c _ _ (fun _ => rfl)) $$ HwR2; iintro HwR2
  iapply (step_peek c _ _ (fun _ => rfl) (show _ = eb0 A c from rfl)) $$ HE; iintro HE
  iapply (step_peek c _ _ (fun _ => rfl) (show _ = eb1 A c from rfl)) $$ HE; iintro HE
  rw [wp_ret]; imodintro
  iapply (Entails.of_eq (show Q ⟨(v543 A c), (v545 A c), (v574 A c), (v577 A c)⟩ = Q ⟨k0_pay36 (xr A (back 2 c)), k0_pay37 (wr A (back 2 c)), k0_pay38 (v2 c) v77 (xr A (back 2 c)) (wr A (back 2 c)) (eb0 A c) (eb1 A c), k0_pay39 (v2 c)⟩ from rfl))
  iapply Hk
  isplitl [HxR2]; · iexact HxR2
  isplitl [HwR2]; · iexact HwR2
  iexact HE

theorem part19 {Q : _ → sProp 𝕄} :
    iprop(facts (vals A) K ∗ holds c (Memref.whole cc0_scratch4) (ewb A c) ∗ Pay (F := F) 12 c ∗ Clk (F := F) 6 c ∗ Fly (F := F) 6 c)
      ⊢ iprop(((holds c (Memref.whole cc0_scratch4) (ewb A c) ∗ Pay (F := F) 12 c ∗ Mid (F := F) 6 c ∗ has c sR0 fullShare (sr0 A c)) -∗ Q (v604 A c)) -∗ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v543 A c) (v545 A c) (v574 A c) (v577 A c)) Q) := by
  rw [k0_part19_eq_skeleton]; unfold k0_part19_skel
  simp only [Prog.lift, Prog.bind_op, Prog.bind_ret, Prog.pure_eq_ret, Prog.bind_assoc]
  iintro ⟨#HF, HE, HP, HC, HFl6⟩ Hk
  iapply (step_peek c _ _ (fun _ => rfl) (show _ = eb2 A c from rfl)) $$ HE; iintro HE
  iapply (step_peek c _ _ (fun _ => rfl) (show _ = eb3 A c from rfl)) $$ HE; iintro HE
  iapply (step_wait_send (vals A) K 6 rfl 12 c rfl (src := rR0.squeeze S512x1024 squeezes_S1x512x1024_S512x1024) (dst := sR0.squeeze S512x1024 squeezes_S1x512x1024_S512x1024) rfl) $$ [HC HFl6 HP]
  · isplitr; · iexact HF
    isplitl [HC]; · iexact HC
    isplitl [HFl6]; · iexact HFl6
    iexact HP
  iintro ⟨HC, HsR0, HP⟩
  ihave HsR0 := (Entails.of_eq (show sendPay (vals A) 6 c = has c sR0 fullShare (sr0 A c) from rfl)) $$ HsR0
  rw [wp_ret]; imodintro
  iapply (Entails.of_eq (show Q (v604 A c) = Q (k0_pay40 (v2 c) v77 (v543 A c) (v545 A c) (v574 A c) (v577 A c) (eb2 A c) (eb3 A c)) from rfl))
  iapply Hk
  isplitl [HE]; · iexact HE
  isplitl [HP]; · iexact HP
  isplitl [HC]; · iexact HC
  iexact HsR0

end Parts

end Cert.Moe

end
-- ==== Proof.Run3.lean ====
/-
# The kernel's steps, parts 20 to 27

Each part takes the slots it touches and gives them back, filled or received.
-/
module

public import proofs.«01_k».proof.Proof.Values

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (A : In F) (K : Dev nD × Option (Bool × Fin 18) → ℕ) (c : Dev nD)

theorem part20 {Q : _ → sProp 𝕄} (v4 : BitVec 32) :
    iprop(facts (vals A) K ∗ Pay (F := F) 12 c ∗ Mid (F := F) 6 c ∗ free (F := F) c sR1)
      ⊢ iprop(((Pay (F := F) 13 c ∗ Clk (F := F) 7 c ∗ has c rR0 fullShare (sr0 A (prv c)) ∗ Fly (F := F) 12 c) -∗ Q ⟨⟩) -∗ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v4 (v604 A c)) Q) := by
  rw [k0_part20_eq_skeleton]; unfold k0_part20_skel
  simp only [Prog.lift, Prog.bind_op, Prog.bind_ret, Prog.pure_eq_ret, Prog.bind_assoc]
  iintro ⟨#HF, HP, HC, HsR1⟩ Hk
  iapply (step_wait_recv (vals A) K 6 rfl 12 (by decide) c rfl (src := sR0.squeeze S512x1024 squeezes_S1x512x1024_S512x1024) (dst := rR0.squeeze S512x1024 squeezes_S1x512x1024_S512x1024) rfl) $$ [HC HP]
  · isplitr; · iexact HF
    isplitl [HC]; · iexact HC
    iexact HP
  iintro ⟨HC, HrR0, HP⟩
  ihave HrR0 := (Entails.of_eq (show recvPay (vals A) 6 c = has c rR0 fullShare (sr0 A (prv c)) from rfl)) $$ HrR0
  iapply (step_load c _ _ (fun _ => rfl)) $$ HrR0; iintro HrR0
  iapply (step_load_free c _ _ (fun _ => rfl)) $$ HsR1; iintro %_ HsR1
  iapply (step_store c _ _ (fun _ => rfl)) $$ HsR1; iintro HsR1
  iapply (step_send (vals A) K 12 rfl rfl c _ (dev15_eq c) rfl rfl sR1 rR1 squeezes_S1x512x1024_S512x1024 fullShare (sr1 A c) rfl rfl rfl (by show has (nxt c) rR1 fullShare (sr1 A (prv (nxt c))) = _; rw [prv_nxt]; rfl)) $$ [HP HsR1]
  · isplitr; · iexact HF
    isplitl [HP]; · iexact HP
    iexact HsR1
  iintro ⟨HP, HFl12⟩
  rw [wp_ret]; imodintro
  iapply Hk
  isplitl [HP]; · iexact HP
  isplitl [HC]; · iexact HC
  isplitl [HrR0]; · iexact HrR0
  iexact HFl12

theorem part21 {Q : _ → sProp 𝕄} (v7 : BitVec 32) :
    iprop(facts (vals A) K ∗ Pay (F := F) 13 c ∗ Clk (F := F) 7 c ∗ Fly (F := F) 7 c ∗ Fly (F := F) 8 c)
      ⊢ iprop(((Pay (F := F) 13 c ∗ Mid (F := F) 8 c ∗ has c xL1 hL (xl A (fore 1 c)) ∗ has c xL2 fullShare (xl A (fore 2 c)) ∗ has c wL1 hL (wl A (fore 1 c))) -∗ Q ⟨⟩) -∗ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 v7) Q) := by
  rw [k0_part21_eq_skeleton]; unfold k0_part21_skel
  simp only [Prog.lift, Prog.bind_op, Prog.bind_ret, Prog.pure_eq_ret, Prog.bind_assoc]
  iintro ⟨#HF, HP, HC, HFl7, HFl8⟩ Hk
  iapply (step_wait_send (vals A) K 7 rfl 13 c rfl (src := xL2.squeeze S512x512 squeezes_S1x512x512_S512x512) (dst := xL1.squeeze S512x512 squeezes_S1x512x512_S512x512) rfl) $$ [HC HFl7 HP]
  · isplitr; · iexact HF
    isplitl [HC]; · iexact HC
    isplitl [HFl7]; · iexact HFl7
    iexact HP
  iintro ⟨HC, HLxL1, HP⟩
  ihave HLxL1 := (Entails.of_eq (show sendPay (vals A) 7 c = has c xL1 hL (xl A (fore 1 c)) from rfl)) $$ HLxL1
  iapply (step_wait_recv (vals A) K 7 rfl 13 (by decide) c rfl (src := xL1.squeeze S512x512 squeezes_S1x512x512_S512x512) (dst := xL2.squeeze S512x512 squeezes_S1x512x512_S512x512) rfl) $$ [HC HP]
  · isplitr; · iexact HF
    isplitl [HC]; · iexact HC
    iexact HP
  iintro ⟨HC, HxL2, HP⟩
  ihave HxL2 := (Entails.of_eq (show recvPay (vals A) 7 c = has c xL2 fullShare (xl A (fore 2 c)) from rfl)) $$ HxL2
  iapply (step_wait_send (vals A) K 8 rfl 13 c rfl (src := wL2.squeeze S512x16 squeezes_S1x512x16_S512x16) (dst := wL1.squeeze S512x16 squeezes_S1x512x16_S512x16) rfl) $$ [HC HFl8 HP]
  · isplitr; · iexact HF
    isplitl [HC]; · iexact HC
    isplitl [HFl8]; · iexact HFl8
    iexact HP
  iintro ⟨HC, HLwL1, HP⟩
  ihave HLwL1 := (Entails.of_eq (show sendPay (vals A) 8 c = has c wL1 hL (wl A (fore 1 c)) from rfl)) $$ HLwL1
  rw [wp_ret]; imodintro
  iapply Hk
  isplitl [HP]; · iexact HP
  isplitl [HC]; · iexact HC
  isplitl [HLxL1]; · iexact HLxL1
  isplitl [HxL2]; · iexact HxL2
  iexact HLwL1

theorem part22 {Q : _ → sProp 𝕄} (v7 : BitVec 32) :
    iprop(facts (vals A) K ∗ Pay (F := F) 13 c ∗ Mid (F := F) 8 c ∗ has c xL2 fullShare (xl A (fore 2 c)))
      ⊢ iprop(((Pay (F := F) 15 c ∗ Clk (F := F) 9 c ∗ has c wL2 hR (wl A (fore 2 c)) ∗ has c xL2 hR (xl A (fore 2 c)) ∗ Fly (F := F) 13 c ∗ Fly (F := F) 14 c) -∗ Q ⟨(v686 A c), (v688 A c), (v692 A c)⟩) -∗ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c (v2 c) v7 v77) Q) := by
  rw [k0_part22_eq_skeleton]; unfold k0_part22_skel
  simp only [Prog.lift, Prog.bind_op, Prog.bind_ret, Prog.pure_eq_ret, Prog.bind_assoc]
  iintro ⟨#HF, HP, HC, HxL2⟩ Hk
  iapply (step_wait_recv (vals A) K 8 rfl 13 (by decide) c rfl (src := wL1.squeeze S512x16 squeezes_S1x512x16_S512x16) (dst := wL2.squeeze S512x16 squeezes_S1x512x16_S512x16) rfl) $$ [HC HP]
  · isplitr; · iexact HF
    isplitl [HC]; · iexact HC
    iexact HP
  iintro ⟨HC, HwL2, HP⟩
  ihave HwL2 := (Entails.of_eq (show recvPay (vals A) 8 c = has c wL2 fullShare (wl A (fore 2 c)) from rfl)) $$ HwL2
  ihave HH := (has_halves c xL2 (xl A (fore 2 c))) $$ HxL2
  icases HH with ⟨HH, HxL2⟩
  iapply (step_send (vals A) K 13 rfl rfl c _ (dev16_eq c) rfl rfl xL2 xL3 squeezes_S1x512x512_S512x512 hL (xl A (fore 2 c)) rfl rfl rfl (by show has (prv c) xL3 fullShare (xl A (fore 2 (nxt (prv c)))) = _; rw [nxt_prv]; rfl)) $$ [HP HH]
  · isplitr; · iexact HF
    isplitl [HP]; · iexact HP
    iexact HH
  iintro ⟨HP, HFl13⟩
  ihave HH := (has_halves c wL2 (wl A (fore 2 c))) $$ HwL2
  icases HH with ⟨HH, HwL2⟩
  iapply (step_send (vals A) K 14 rfl rfl c _ (dev17_eq c) rfl rfl wL2 wL3 squeezes_S1x512x16_S512x16 hL (wl A (fore 2 c)) rfl rfl rfl (by show has (prv c) wL3 fullShare (wl A (fore 2 (nxt (prv c)))) = _; rw [nxt_prv]; rfl)) $$ [HP HH]
  · isplitr; · iexact HF
    isplitl [HP]; · iexact HP
    iexact HH
  iintro ⟨HP, HFl14⟩
  iapply (step_load c _ _ (fun _ => rfl)) $$ HxL2; iintro HxL2
  iapply (step_load c _ _ (fun _ => rfl)) $$ HwL2; iintro HwL2
  rw [wp_ret]; imodintro
  iapply (Entails.of_eq (show Q ⟨(v686 A c), (v688 A c), (v692 A c)⟩ = Q ⟨k0_pay42 (xl A (fore 2 c)), k0_pay43 (wl A (fore 2 c)), k0_pay44 (v2 c) v77⟩ from rfl))
  iapply Hk
  isplitl [HP]; · iexact HP
  isplitl [HC]; · iexact HC
  isplitl [HwL2]; · iexact HwL2
  isplitl [HxL2]; · iexact HxL2
  isplitl [HFl13]; · iexact HFl13
  iexact HFl14

theorem part23 {Q : _ → sProp 𝕄} :
    iprop(holds c (Memref.whole cc0_scratch4) (ewb A c))
      ⊢ iprop(((holds c (Memref.whole cc0_scratch4) (ewb A c)) -∗ Q ⟨(v717 A c), (v728 A c), (v730 A c), (cst_592 (F := F))⟩) -∗ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v686 A c) (v688 A c) (v692 A c)) Q) := by
  rw [k0_part23_eq_skeleton]; unfold k0_part23_skel
  simp only [Prog.lift, Prog.bind_op, Prog.bind_ret, Prog.pure_eq_ret, Prog.bind_assoc]
  iintro HE Hk
  iapply (step_peek c _ _ (fun _ => rfl) (show _ = eb0 A c from rfl)) $$ HE; iintro HE
  iapply (step_peek c _ _ (fun _ => rfl) (show _ = eb1 A c from rfl)) $$ HE; iintro HE
  iapply (step_peek c _ _ (fun _ => rfl) (show _ = eb2 A c from rfl)) $$ HE; iintro HE
  rw [wp_ret]; imodintro
  iapply (Entails.of_eq (show Q ⟨(v717 A c), (v728 A c), (v730 A c), (cst_592 (F := F))⟩ = Q ⟨k0_pay45 (v2 c) v77 (v686 A c) (v688 A c) (v692 A c) (eb0 A c) (eb1 A c), k0_pay46 (v2 c) v77 (v686 A c) (v688 A c), k0_pay47 (eb2 A c), (constant S512x1024 .f32 0x00000000#32)⟩ from rfl))
  iapply Hk
  iexact HE

theorem part24 {Q : _ → sProp 𝕄} (v7 : BitVec 32) :
    iprop(facts (vals A) K ∗ holds c (Memref.whole cc0_scratch4) (ewb A c) ∗ Pay (F := F) 15 c ∗ Clk (F := F) 9 c ∗ Fly (F := F) 9 c)
      ⊢ iprop(((holds c (Memref.whole cc0_scratch4) (ewb A c) ∗ Pay (F := F) 15 c ∗ Clk (F := F) 10 c ∗ has c sL0 fullShare (sl0 A c) ∗ has c rL0 fullShare (sl0 A (nxt c))) -∗ Q (v747 A c)) -∗ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v7 v77 (v686 A c) (v688 A c) (v717 A c) (v728 A c) (v730 A c) (cst_592 (F := F))) Q) := by
  rw [k0_part24_eq_skeleton]; unfold k0_part24_skel
  simp only [Prog.lift, Prog.bind_op, Prog.bind_ret, Prog.pure_eq_ret, Prog.bind_assoc]
  iintro ⟨#HF, HE, HP, HC, HFl9⟩ Hk
  iapply (step_peek c _ _ (fun _ => rfl) (show _ = eb3 A c from rfl)) $$ HE; iintro HE
  iapply (step_wait_send (vals A) K 9 rfl 15 c rfl (src := rL0.squeeze S512x1024 squeezes_S1x512x1024_S512x1024) (dst := sL0.squeeze S512x1024 squeezes_S1x512x1024_S512x1024) rfl) $$ [HC HFl9 HP]
  · isplitr; · iexact HF
    isplitl [HC]; · iexact HC
    isplitl [HFl9]; · iexact HFl9
    iexact HP
  iintro ⟨HC, HsL0, HP⟩
  ihave HsL0 := (Entails.of_eq (show sendPay (vals A) 9 c = has c sL0 fullShare (sl0 A c) from rfl)) $$ HsL0
  iapply (step_wait_recv (vals A) K 9 rfl 15 (by decide) c rfl (src := sL0.squeeze S512x1024 squeezes_S1x512x1024_S512x1024) (dst := rL0.squeeze S512x1024 squeezes_S1x512x1024_S512x1024) rfl) $$ [HC HP]
  · isplitr; · iexact HF
    isplitl [HC]; · iexact HC
    iexact HP
  iintro ⟨HC, HrL0, HP⟩
  ihave HrL0 := (Entails.of_eq (show recvPay (vals A) 9 c = has c rL0 fullShare (sl0 A (nxt c)) from rfl)) $$ HrL0
  rw [wp_ret]; imodintro
  iapply (Entails.of_eq (show Q (v747 A c) = Q (k0_pay48 (v2 c) v77 (v686 A c) (v688 A c) (v717 A c) (v728 A c) (v730 A c) (cst_592 (F := F)) (eb3 A c)) from rfl))
  iapply Hk
  isplitl [HE]; · iexact HE
  isplitl [HP]; · iexact HP
  isplitl [HC]; · iexact HC
  isplitl [HsL0]; · iexact HsL0
  iexact HrL0

theorem part25 {Q : _ → sProp 𝕄} (v4 : BitVec 32) (v7 : BitVec 32) :
    iprop(facts (vals A) K ∗ has c rL0 fullShare (sl0 A (nxt c)) ∗ free (F := F) c sL1 ∗ Pay (F := F) 15 c ∗ Clk (F := F) 10 c ∗ Fly (F := F) 10 c)
      ⊢ iprop(((has c rL0 fullShare (sl0 A (nxt c)) ∗ Pay (F := F) 16 c ∗ Fly (F := F) 15 c ∗ Mid (F := F) 10 c ∗ has c xR2 hL (xr A (back 2 c))) -∗ Q ⟨⟩) -∗ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v4 v7 (v747 A c)) Q) := by
  rw [k0_part25_eq_skeleton]; unfold k0_part25_skel
  simp only [Prog.lift, Prog.bind_op, Prog.bind_ret, Prog.pure_eq_ret, Prog.bind_assoc]
  iintro ⟨#HF, HrL0, HsL1, HP, HC, HFl10⟩ Hk
  iapply (step_load c _ _ (fun _ => rfl)) $$ HrL0; iintro HrL0
  iapply (step_load_free c _ _ (fun _ => rfl)) $$ HsL1; iintro %_ HsL1
  iapply (step_store c _ _ (fun _ => rfl)) $$ HsL1; iintro HsL1
  iapply (step_send (vals A) K 15 rfl rfl c _ (dev18_eq c) rfl rfl sL1 rL1 squeezes_S1x512x1024_S512x1024 fullShare (sl1 A c) rfl rfl rfl (by show has (prv c) rL1 fullShare (sl1 A (nxt (prv c))) = _; rw [nxt_prv]; rfl)) $$ [HP HsL1]
  · isplitr; · iexact HF
    isplitl [HP]; · iexact HP
    iexact HsL1
  iintro ⟨HP, HFl15⟩
  iapply (step_wait_send (vals A) K 10 rfl 16 c rfl (src := xR3.squeeze S512x512 squeezes_S1x512x512_S512x512) (dst := xR2.squeeze S512x512 squeezes_S1x512x512_S512x512) rfl) $$ [HC HFl10 HP]
  · isplitr; · iexact HF
    isplitl [HC]; · iexact HC
    isplitl [HFl10]; · iexact HFl10
    iexact HP
  iintro ⟨HC, HLxR2, HP⟩
  ihave HLxR2 := (Entails.of_eq (show sendPay (vals A) 10 c = has c xR2 hL (xr A (back 2 c)) from rfl)) $$ HLxR2
  rw [wp_ret]; imodintro
  iapply Hk
  isplitl [HrL0]; · iexact HrL0
  isplitl [HP]; · iexact HP
  isplitl [HFl15]; · iexact HFl15
  isplitl [HC]; · iexact HC
  iexact HLxR2

theorem part26 {Q : _ → sProp 𝕄} (v4 : BitVec 32) :
    iprop(facts (vals A) K ∗ Pay (F := F) 16 c ∗ Mid (F := F) 10 c ∗ Fly (F := F) 11 c)
      ⊢ iprop(((Pay (F := F) 16 c ∗ Clk (F := F) 12 c ∗ has c xR3 fullShare (xr A (back 3 c)) ∗ has c wR2 hL (wr A (back 2 c)) ∗ has c wR3 fullShare (wr A (back 3 c))) -∗ Q ⟨(v809 A c), (v811 A c), (v813 A c)⟩) -∗ wp frame (wpE (defs₀ (F := F)) 𝒱₀ (c : Thread nD τ) none) Set.univ
          (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v4) Q) := by
  rw [k0_part26_eq_skeleton]; unfold k0_part26_skel
  simp only [Prog.lift, Prog.bind_op, Prog.bind_ret, Prog.pure_eq_ret, Prog.bind_assoc]
  iintro ⟨#HF, HP, HC, HFl11⟩ Hk
  iapply (step_wait_recv (vals A) K 10 rfl 16 (by decide) c rfl (src := xR2.squeeze S512x512 squeezes_S1x512x512_S512x512) (dst := xR3.squeeze S512x512 squeezes_S1x512x512_S512x512) rfl) $$ [HC HP]
  · isplitr; · iexact HF
    isplitl [HC]; · iexact HC
    iexact HP
  iintro ⟨HC, HxR3, HP⟩
  ihave HxR3 := (Entails.of_eq (show recvPay (vals A) 10 c = has c xR3 fullShare (xr A (back 3 c)) from rfl)) $$ HxR3
  iapply (step_wait_send (vals A) K 11 rfl 16 c rfl (src := wR3.squeeze S512x16 squeezes_S1x512x16_S512x16) (dst := wR2.squeeze S512x16 squeezes_S1x512x16_S512x16) rfl) $$ [HC HFl11 HP]
  · isplitr; · iexact HF
    isplitl [HC]; · iexact HC
    isplitl [HFl11]; · iexact HFl11
    iexact HP
  iintro ⟨HC, HLwR2, HP⟩
  ihave HLwR2 := (Entails.of_eq (show sendPay (vals A) 11 c = has c wR2 hL (wr A (back 2 c)) from rfl)) $$ HLwR2
  iapply (step_wait_recv (vals A) K 11 rfl 16 (by decide) c rfl (src := wR2.squeeze S512x16 squeezes_S1x512x16_S512x16) (dst := wR3.squeeze S512x16 squeezes_S1x512x16_S512x16) rfl) $$ [HC HP]
  · isplitr; · iexact HF
    isplitl [HC]; · iexact HC
    iexact HP
  iintro ⟨HC, HwR3, HP⟩
  ihave HwR3 := (Entails.of_eq (show recvPay (vals A) 11 c = has c wR3 fullShare (wr A (back 3 c)) from rfl)) $$ HwR3
  iapply (step_load c _ _ (fun _ => rfl)) $$ HxR3; iintro HxR3
  iapply (step_load c _ _ (fun _ => rfl)) $$ HwR3; iintro HwR3
  rw [wp_ret]; imodintro
  iapply (Entails.of_eq (show Q ⟨(v809 A c), (v811 A c), (v813 A c)⟩ = Q ⟨k0_pay50 (xr A (back 3 c)), k0_pay51 (wr A (back 3 c)), (Scalar.addi (Scalar.muli (v2 c) 4#32) 0#32)⟩ from rfl))
  iapply Hk
  isplitl [HP]; · iexact HP
  isplitl [HC]; · iexact HC
  isplitl [HxR3]; · iexact HxR3
  isplitl [HLwR2]; · iexact HLwR2
  iexact HwR3

theorem part27 {Q : _ → sProp 𝕄} :
    iprop(holds c (Memref.whole cc0_scratch4) (ewb A c))
      ⊢ iprop(((holds c (Memref.whole cc0_scratch4) (ewb A c)) -∗ Q ⟨(v840 A c), (v851 A c), (v852 A c)⟩) -∗ wp frame (wpE (defs₀ (F := F)) 𝒱₀ (c : Thread nD τ) none) Set.univ
          (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v809 A c) (v811 A c) (v813 A c)) Q) := by
  rw [k0_part27_eq_skeleton]; unfold k0_part27_skel
  simp only [Prog.lift, Prog.bind_op, Prog.bind_ret, Prog.pure_eq_ret, Prog.bind_assoc]
  iintro HE Hk
  iapply (step_peek c _ _ (fun _ => rfl) (show _ = eb0 A c from rfl)) $$ HE; iintro HE
  iapply (step_peek c _ _ (fun _ => rfl) (show _ = eb1 A c from rfl)) $$ HE; iintro HE
  iapply (step_peek c _ _ (fun _ => rfl) (show _ = eb2 A c from rfl)) $$ HE; iintro HE
  rw [wp_ret]; imodintro
  iapply (Entails.of_eq (show Q ⟨(v840 A c), (v851 A c), (v852 A c)⟩ = Q ⟨k0_pay52 (v2 c) v77 (v809 A c) (v811 A c) (v813 A c) (eb0 A c) (eb1 A c), k0_pay53 (v2 c) v77 (v809 A c) (v811 A c), (eb2 A c)⟩ from rfl))
  iapply Hk
  iexact HE

end Parts

end Cert.Moe

end
-- ==== Proof.Run4.lean ====
/-
# The kernel's steps, parts 28 to 34

Each part takes the slots it touches and gives them back, filled or received.
-/
module

public import proofs.«01_k».proof.Proof.Values

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (A : In F) (K : Dev nD × Option (Bool × Fin 18) → ℕ) (c : Dev nD)

theorem part28 {Q : _ → sProp 𝕄} (v4 : BitVec 32) :
    iprop(facts (vals A) K ∗ holds c (Memref.whole cc0_scratch4) (ewb A c) ∗ Pay (F := F) 16 c ∗ Clk (F := F) 12 c ∗ Fly (F := F) 12 c)
      ⊢ iprop(((holds c (Memref.whole cc0_scratch4) (ewb A c) ∗ Pay (F := F) 16 c ∗ Mid (F := F) 12 c ∗ has c sR1 fullShare (sr1 A c)) -∗ Q (v870 A c)) -∗ wp frame (wpE (defs₀ (F := F)) 𝒱₀ (c : Thread nD τ) none) Set.univ
          (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v4 v77 (v809 A c) (v811 A c) (v840 A c) (v851 A c) (v852 A c)) Q) := by
  rw [k0_part28_eq_skeleton]; unfold k0_part28_skel
  simp only [Prog.lift, Prog.bind_op, Prog.bind_ret, Prog.pure_eq_ret, Prog.bind_assoc]
  iintro ⟨#HF, HE, HP, HC, HFl12⟩ Hk
  iapply (step_peek c _ _ (fun _ => rfl) (show _ = eb3 A c from rfl)) $$ HE; iintro HE
  iapply (step_wait_send (vals A) K 12 rfl 16 c rfl (src := rR1.squeeze S512x1024 squeezes_S1x512x1024_S512x1024) (dst := sR1.squeeze S512x1024 squeezes_S1x512x1024_S512x1024) rfl) $$ [HC HFl12 HP]
  · isplitr; · iexact HF
    isplitl [HC]; · iexact HC
    isplitl [HFl12]; · iexact HFl12
    iexact HP
  iintro ⟨HC, HsR1, HP⟩
  ihave HsR1 := (Entails.of_eq (show sendPay (vals A) 12 c = has c sR1 fullShare (sr1 A c) from rfl)) $$ HsR1
  rw [wp_ret]; imodintro
  iapply (Entails.of_eq (show Q (v870 A c) = Q (k0_pay54 (v2 c) v77 (v809 A c) (v811 A c) (v840 A c) (v851 A c) (v852 A c) (eb3 A c)) from rfl))
  iapply Hk
  isplitl [HE]; · iexact HE
  isplitl [HP]; · iexact HP
  isplitl [HC]; · iexact HC
  iexact HsR1

theorem part29 {Q : _ → sProp 𝕄} (v4 : BitVec 32) (v7 : BitVec 32) :
    iprop(facts (vals A) K ∗ Pay (F := F) 16 c ∗ Mid (F := F) 12 c ∗ free (F := F) c sR2 ∗ Fly (F := F) 13 c)
      ⊢ iprop((∀ w, (Pay (F := F) 17 c ∗ Mid (F := F) 13 c ∗ has c rR1 fullShare (sr1 A (prv c)) ∗ Fly (F := F) 16 c ∗ has c xL2 hL (xl A (fore 2 c))) -∗ Q w) -∗ wp frame (wpE (defs₀ (F := F)) 𝒱₀ (c : Thread nD τ) none) Set.univ
          (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v4 v7 (v870 A c)) Q) := by
  rw [k0_part29_eq_skeleton]; unfold k0_part29_skel
  simp only [Prog.lift, Prog.bind_op, Prog.bind_ret, Prog.pure_eq_ret, Prog.bind_assoc]
  iintro ⟨#HF, HP, HC, HsR2, HFl13⟩ Hk
  iapply (step_wait_recv (vals A) K 12 rfl 16 (by decide) c rfl (src := sR1.squeeze S512x1024 squeezes_S1x512x1024_S512x1024) (dst := rR1.squeeze S512x1024 squeezes_S1x512x1024_S512x1024) rfl) $$ [HC HP]
  · isplitr; · iexact HF
    isplitl [HC]; · iexact HC
    iexact HP
  iintro ⟨HC, HrR1, HP⟩
  ihave HrR1 := (Entails.of_eq (show recvPay (vals A) 12 c = has c rR1 fullShare (sr1 A (prv c)) from rfl)) $$ HrR1
  iapply (step_load c _ _ (fun _ => rfl)) $$ HrR1; iintro HrR1
  iapply (step_load_free c _ _ (fun _ => rfl)) $$ HsR2; iintro %_ HsR2
  iapply (step_store c _ _ (fun _ => rfl)) $$ HsR2; iintro HsR2
  iapply (step_send (vals A) K 16 rfl rfl c _ (dev19_eq c) rfl rfl sR2 rR2 squeezes_S1x512x1024_S512x1024 fullShare (sr2 A c) rfl rfl rfl (by show has (nxt c) rR2 fullShare (sr2 A (prv (nxt c))) = _; rw [prv_nxt]; rfl)) $$ [HP HsR2]
  · isplitr; · iexact HF
    isplitl [HP]; · iexact HP
    iexact HsR2
  iintro ⟨HP, HFl16⟩
  iapply (step_wait_send (vals A) K 13 rfl 17 c rfl (src := xL3.squeeze S512x512 squeezes_S1x512x512_S512x512) (dst := xL2.squeeze S512x512 squeezes_S1x512x512_S512x512) rfl) $$ [HC HFl13 HP]
  · isplitr; · iexact HF
    isplitl [HC]; · iexact HC
    isplitl [HFl13]; · iexact HFl13
    iexact HP
  iintro ⟨HC, HLxL2, HP⟩
  ihave HLxL2 := (Entails.of_eq (show sendPay (vals A) 13 c = has c xL2 hL (xl A (fore 2 c)) from rfl)) $$ HLxL2
  rw [wp_ret]; imodintro
  iapply Hk
  isplitl [HP]; · iexact HP
  isplitl [HC]; · iexact HC
  isplitl [HrR1]; · iexact HrR1
  isplitl [HFl16]; · iexact HFl16
  iexact HLxL2

theorem part30 {Q : _ → sProp 𝕄} (v7 : BitVec 32) (v909 : BitVec 32) :
    iprop(facts (vals A) K ∗ Pay (F := F) 17 c ∗ Mid (F := F) 13 c ∗ Fly (F := F) 14 c)
      ⊢ iprop(((Pay (F := F) 17 c ∗ Clk (F := F) 15 c ∗ has c xL3 fullShare (xl A (fore 3 c)) ∗ has c wL2 hL (wl A (fore 2 c)) ∗ has c wL3 fullShare (wl A (fore 3 c))) -∗ Q ⟨(v932 A c), (v934 A c), (v935 A c)⟩) -∗ wp frame (wpE (defs₀ (F := F)) 𝒱₀ (c : Thread nD τ) none) Set.univ
          (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v7 v909) Q) := by
  rw [k0_part30_eq_skeleton]; unfold k0_part30_skel
  simp only [Prog.lift, Prog.bind_op, Prog.bind_ret, Prog.pure_eq_ret, Prog.bind_assoc]
  iintro ⟨#HF, HP, HC, HFl14⟩ Hk
  iapply (step_wait_recv (vals A) K 13 rfl 17 (by decide) c rfl (src := xL2.squeeze S512x512 squeezes_S1x512x512_S512x512) (dst := xL3.squeeze S512x512 squeezes_S1x512x512_S512x512) rfl) $$ [HC HP]
  · isplitr; · iexact HF
    isplitl [HC]; · iexact HC
    iexact HP
  iintro ⟨HC, HxL3, HP⟩
  ihave HxL3 := (Entails.of_eq (show recvPay (vals A) 13 c = has c xL3 fullShare (xl A (fore 3 c)) from rfl)) $$ HxL3
  iapply (step_wait_send (vals A) K 14 rfl 17 c rfl (src := wL3.squeeze S512x16 squeezes_S1x512x16_S512x16) (dst := wL2.squeeze S512x16 squeezes_S1x512x16_S512x16) rfl) $$ [HC HFl14 HP]
  · isplitr; · iexact HF
    isplitl [HC]; · iexact HC
    isplitl [HFl14]; · iexact HFl14
    iexact HP
  iintro ⟨HC, HLwL2, HP⟩
  ihave HLwL2 := (Entails.of_eq (show sendPay (vals A) 14 c = has c wL2 hL (wl A (fore 2 c)) from rfl)) $$ HLwL2
  iapply (step_wait_recv (vals A) K 14 rfl 17 (by decide) c rfl (src := wL2.squeeze S512x16 squeezes_S1x512x16_S512x16) (dst := wL3.squeeze S512x16 squeezes_S1x512x16_S512x16) rfl) $$ [HC HP]
  · isplitr; · iexact HF
    isplitl [HC]; · iexact HC
    iexact HP
  iintro ⟨HC, HwL3, HP⟩
  ihave HwL3 := (Entails.of_eq (show recvPay (vals A) 14 c = has c wL3 fullShare (wl A (fore 3 c)) from rfl)) $$ HwL3
  iapply (step_load c _ _ (fun _ => rfl)) $$ HxL3; iintro HxL3
  iapply (step_load c _ _ (fun _ => rfl)) $$ HwL3; iintro HwL3
  rw [wp_ret]; imodintro
  iapply (Entails.of_eq (show Q ⟨(v932 A c), (v934 A c), (v935 A c)⟩ = Q ⟨k0_pay56 (xl A (fore 3 c)), k0_pay57 (wl A (fore 3 c)), (Scalar.muli (v2 c) 4#32)⟩ from rfl))
  iapply Hk
  isplitl [HP]; · iexact HP
  isplitl [HC]; · iexact HC
  isplitl [HxL3]; · iexact HxL3
  isplitl [HLwL2]; · iexact HLwL2
  iexact HwL3

theorem part31 {Q : _ → sProp 𝕄} :
    iprop(holds c (Memref.whole cc0_scratch4) (ewb A c))
      ⊢ iprop(((holds c (Memref.whole cc0_scratch4) (ewb A c)) -∗ Q ⟨(v963 A c), (v974 A c)⟩) -∗ wp frame (wpE (defs₀ (F := F)) 𝒱₀ (c : Thread nD τ) none) Set.univ
          (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v77 (v932 A c) (v934 A c) (v935 A c)) Q) := by
  rw [k0_part31_eq_skeleton]; unfold k0_part31_skel
  simp only [Prog.lift, Prog.bind_op, Prog.bind_ret, Prog.pure_eq_ret, Prog.bind_assoc]
  iintro HE Hk
  iapply (step_peek c _ _ (fun _ => rfl) (show _ = eb0 A c from rfl)) $$ HE; iintro HE
  iapply (step_peek c _ _ (fun _ => rfl) (show _ = eb1 A c from rfl)) $$ HE; iintro HE
  rw [wp_ret]; imodintro
  iapply (Entails.of_eq (show Q ⟨(v963 A c), (v974 A c)⟩ = Q ⟨k0_pay58 (v2 c) v77 (v932 A c) (v934 A c) (v935 A c) (eb0 A c) (eb1 A c), k0_pay59 (v2 c) v77 (v932 A c) (v934 A c)⟩ from rfl))
  iapply Hk
  iexact HE

theorem part32 {Q : _ → sProp 𝕄} (v7 : BitVec 32) :
    iprop(facts (vals A) K ∗ holds c (Memref.whole cc0_scratch4) (ewb A c) ∗ Pay (F := F) 17 c ∗ Clk (F := F) 15 c ∗ Fly (F := F) 15 c)
      ⊢ iprop(((holds c (Memref.whole cc0_scratch4) (ewb A c) ∗ Pay (F := F) 17 c ∗ Mid (F := F) 15 c ∗ has c sL1 fullShare (sl1 A c)) -∗ Q (v993 A c)) -∗ wp frame (wpE (defs₀ (F := F)) 𝒱₀ (c : Thread nD τ) none) Set.univ
          (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 (v2 c) v7 v77 (v932 A c) (v934 A c) (v963 A c) (v974 A c)) Q) := by
  rw [k0_part32_eq_skeleton]; unfold k0_part32_skel
  simp only [Prog.lift, Prog.bind_op, Prog.bind_ret, Prog.pure_eq_ret, Prog.bind_assoc]
  iintro ⟨#HF, HE, HP, HC, HFl15⟩ Hk
  iapply (step_peek c _ _ (fun _ => rfl) (show _ = eb2 A c from rfl)) $$ HE; iintro HE
  iapply (step_peek c _ _ (fun _ => rfl) (show _ = eb3 A c from rfl)) $$ HE; iintro HE
  iapply (step_wait_send (vals A) K 15 rfl 17 c rfl (src := rL1.squeeze S512x1024 squeezes_S1x512x1024_S512x1024) (dst := sL1.squeeze S512x1024 squeezes_S1x512x1024_S512x1024) rfl) $$ [HC HFl15 HP]
  · isplitr; · iexact HF
    isplitl [HC]; · iexact HC
    isplitl [HFl15]; · iexact HFl15
    iexact HP
  iintro ⟨HC, HsL1, HP⟩
  ihave HsL1 := (Entails.of_eq (show sendPay (vals A) 15 c = has c sL1 fullShare (sl1 A c) from rfl)) $$ HsL1
  rw [wp_ret]; imodintro
  iapply (Entails.of_eq (show Q (v993 A c) = Q (k0_pay60 (v2 c) v77 (v932 A c) (v934 A c) (v963 A c) (v974 A c) (eb2 A c) (eb3 A c)) from rfl))
  iapply Hk
  isplitl [HE]; · iexact HE
  isplitl [HP]; · iexact HP
  isplitl [HC]; · iexact HC
  iexact HsL1

theorem part33 {Q : _ → sProp 𝕄} (v7 : BitVec 32) :
    iprop(facts (vals A) K ∗ Pay (F := F) 17 c ∗ Mid (F := F) 15 c ∗ free (F := F) c sL2 ∗ Fly (F := F) 16 c)
      ⊢ iprop(((Pay (F := F) 18 c ∗ Mid (F := F) 16 c ∗ has c rL1 fullShare (sl1 A (nxt c)) ∗ Fly (F := F) 17 c ∗ has c sR2 fullShare (sr2 A c)) -∗ Q ⟨⟩) -∗ wp frame (wpE (defs₀ (F := F)) 𝒱₀ (c : Thread nD τ) none) Set.univ
          (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 c v7 (v993 A c)) Q) := by
  rw [k0_part33_eq_skeleton]; unfold k0_part33_skel
  simp only [Prog.lift, Prog.bind_op, Prog.bind_ret, Prog.pure_eq_ret, Prog.bind_assoc]
  iintro ⟨#HF, HP, HC, HsL2, HFl16⟩ Hk
  iapply (step_wait_recv (vals A) K 15 rfl 17 (by decide) c rfl (src := sL1.squeeze S512x1024 squeezes_S1x512x1024_S512x1024) (dst := rL1.squeeze S512x1024 squeezes_S1x512x1024_S512x1024) rfl) $$ [HC HP]
  · isplitr; · iexact HF
    isplitl [HC]; · iexact HC
    iexact HP
  iintro ⟨HC, HrL1, HP⟩
  ihave HrL1 := (Entails.of_eq (show recvPay (vals A) 15 c = has c rL1 fullShare (sl1 A (nxt c)) from rfl)) $$ HrL1
  iapply (step_load c _ _ (fun _ => rfl)) $$ HrL1; iintro HrL1
  iapply (step_load_free c _ _ (fun _ => rfl)) $$ HsL2; iintro %_ HsL2
  iapply (step_store c _ _ (fun _ => rfl)) $$ HsL2; iintro HsL2
  iapply (step_send (vals A) K 17 rfl rfl c _ (dev20_eq c) rfl rfl sL2 rL2 squeezes_S1x512x1024_S512x1024 fullShare (sl2 A c) rfl rfl rfl (by show has (prv c) rL2 fullShare (sl2 A (nxt (prv c))) = _; rw [nxt_prv]; rfl)) $$ [HP HsL2]
  · isplitr; · iexact HF
    isplitl [HP]; · iexact HP
    iexact HsL2
  iintro ⟨HP, HFl17⟩
  iapply (step_wait_send (vals A) K 16 rfl 18 c rfl (src := rR2.squeeze S512x1024 squeezes_S1x512x1024_S512x1024) (dst := sR2.squeeze S512x1024 squeezes_S1x512x1024_S512x1024) rfl) $$ [HC HFl16 HP]
  · isplitr; · iexact HF
    isplitl [HC]; · iexact HC
    isplitl [HFl16]; · iexact HFl16
    iexact HP
  iintro ⟨HC, HsR2, HP⟩
  ihave HsR2 := (Entails.of_eq (show sendPay (vals A) 16 c = has c sR2 fullShare (sr2 A c) from rfl)) $$ HsR2
  rw [wp_ret]; imodintro
  iapply Hk
  isplitl [HP]; · iexact HP
  isplitl [HC]; · iexact HC
  isplitl [HrL1]; · iexact HrL1
  isplitl [HFl17]; · iexact HFl17
  iexact HsR2

theorem part34 {Q : _ → sProp 𝕄} (v4 : BitVec 32) (v7 : BitVec 32) :
    iprop(facts (vals A) K ∗ Pay (F := F) 18 c ∗ Mid (F := F) 16 c ∗ free (F := F) c OT ∗ Fly (F := F) 17 c)
      ⊢ iprop(((Pay (F := F) 18 c ∗ Mid (F := F) 17 c ∗ has c rR2 fullShare (sr2 A (prv c)) ∗ has c OT fullShare (resT A c) ∗ has c sL2 fullShare (sl2 A c)) -∗ Q ⟨⟩) -∗ wp frame (wpE (defs₀ (F := F)) 𝒱₀ (c : Thread nD τ) none) Set.univ
          (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 v4 v7 (v180 A c)) Q) := by
  rw [k0_part34_eq_skeleton]; unfold k0_part34_skel
  simp only [Prog.lift, Prog.bind_op, Prog.bind_ret, Prog.pure_eq_ret, Prog.bind_assoc]
  iintro ⟨#HF, HP, HC, HOT, HFl17⟩ Hk
  iapply (step_wait_recv (vals A) K 16 rfl 18 (by decide) c rfl (src := sR2.squeeze S512x1024 squeezes_S1x512x1024_S512x1024) (dst := rR2.squeeze S512x1024 squeezes_S1x512x1024_S512x1024) rfl) $$ [HC HP]
  · isplitr; · iexact HF
    isplitl [HC]; · iexact HC
    iexact HP
  iintro ⟨HC, HrR2, HP⟩
  ihave HrR2 := (Entails.of_eq (show recvPay (vals A) 16 c = has c rR2 fullShare (sr2 A (prv c)) from rfl)) $$ HrR2
  iapply (step_load c _ _ (fun _ => rfl)) $$ HrR2; iintro HrR2
  iapply (step_load_free c _ _ (fun _ => rfl)) $$ HOT; iintro %_ HOT
  iapply (step_store c _ _ (fun _ => rfl)) $$ HOT; iintro HOT
  iapply (step_wait_send (vals A) K 17 rfl 18 c rfl (src := rL2.squeeze S512x1024 squeezes_S1x512x1024_S512x1024) (dst := sL2.squeeze S512x1024 squeezes_S1x512x1024_S512x1024) rfl) $$ [HC HFl17 HP]
  · isplitr; · iexact HF
    isplitl [HC]; · iexact HC
    isplitl [HFl17]; · iexact HFl17
    iexact HP
  iintro ⟨HC, HsL2, HP⟩
  ihave HsL2 := (Entails.of_eq (show sendPay (vals A) 17 c = has c sL2 fullShare (sl2 A c) from rfl)) $$ HsL2
  rw [wp_ret]; imodintro
  iapply Hk
  isplitl [HP]; · iexact HP
  isplitl [HC]; · iexact HC
  isplitl [HrR2]; · iexact HrR2
  isplitl [HOT]; · iexact HOT
  iexact HsL2

end Parts

end Cert.Moe

end
-- ==== Proof.Body.lean ====
/-
# The kernel's body

The barrier, and the parts chained, from whole buffers to whole buffers.
-/
module

public import proofs.«01_k».proof.Proof.Run1
public import proofs.«01_k».proof.Proof.Run2
public import proofs.«01_k».proof.Proof.Run3
public import proofs.«01_k».proof.Proof.Run4

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Buffers
variable (c : Dev nD)

/-- Row `i` of a buffer of `n` blocks. -/
theorem row_inb (n a b : ℕ) (i : Fin n) : ∀ k, (![i.val, 0, 0] : Fin 3 → ℕ) k + (![1, a, b] : Fin 3 → ℕ) k ≤ (⟨3, ![n, a, b]⟩ : Shape).size k := fun k => by
  fin_cases k
  · exact Nat.succ_le_of_lt i.isLt
  · exact le_of_eq (Nat.zero_add a)
  · exact le_of_eq (Nat.zero_add b)
abbrev row (n a b : ℕ) (i : Fin n) : Rect ⟨3, ![n, a, b]⟩ := Rect.unit (s := ⟨3, ![n, a, b]⟩) ![i.val, 0, 0] ![1, a, b] (row_inb n a b i)
theorem row_disjoint (n a b : ℕ) (i j : Fin n) (h : i ≠ j) : Disjoint (row n a b i).set (row n a b j).set := by
  rw [Finset.disjoint_left]
  intro x hx hy
  have h1 := (Rect.mem_set_unit.mp hx) 0
  have h2 := (Rect.mem_set_unit.mp hy) 0
  have e1 : (![i.val, 0, 0] : Fin 3 → ℕ) 0 = i.val := rfl
  have e2 : (![j.val, 0, 0] : Fin 3 → ℕ) 0 = j.val := rfl
  have e3 : (![1, a, b] : Fin 3 → ℕ) 0 = 1 := rfl
  rw [e1, e3] at h1; rw [e2, e3] at h2
  exact h (Fin.ext (by omega))
theorem row_cover (n a b : ℕ) : (Finset.univ : Finset (Fin n)).biUnion (fun i => (row n a b i).set) = Finset.univ := by
  refine Finset.eq_univ_of_forall fun x => ?_
  refine Finset.mem_biUnion.mpr ⟨⟨(x 0).val, (x 0).isLt⟩, Finset.mem_univ _, Rect.mem_set_unit.mpr fun k => ?_⟩
  fin_cases k
  · exact ⟨le_refl _, Nat.lt_succ_self _⟩
  · exact ⟨Nat.zero_le _, by have := (x 1).isLt; exact lt_of_lt_of_eq this (Nat.zero_add a).symm⟩
  · exact ⟨Nat.zero_le _, by have := (x 2).isLt; exact lt_of_lt_of_eq this (Nat.zero_add b).symm⟩

theorem cut4 {a b : ℕ} {e : EltTy} (m : Memref sig .tc .vmem ⟨3, ![4, a, b]⟩ e) :
    (free c m : sProp 𝕄) ⊢ iprop(free (F := F) c (m.slice (row 4 a b 0) fun _ => rfl) ∗ free (F := F) c (m.slice (row 4 a b 1) fun _ => rfl)
      ∗ free (F := F) c (m.slice (row 4 a b 2) fun _ => rfl) ∗ free (F := F) c (m.slice (row 4 a b 3) fun _ => rfl)) :=
  (cut c m (row 4 a b) (fun _ _ => rfl) (row_disjoint 4 a b) (row_cover 4 a b)).trans
    (Entails.of_eq (bigSep_univ_eq_bigSepL [0, 1, 2, 3] (by decide) (by decide) _))
theorem join4 {a b : ℕ} {e : EltTy} (m : Memref sig .tc .vmem ⟨3, ![4, a, b]⟩ e) :
    (iprop(free (F := F) c (m.slice (row 4 a b 0) fun _ => rfl) ∗ free (F := F) c (m.slice (row 4 a b 1) fun _ => rfl)
      ∗ free (F := F) c (m.slice (row 4 a b 2) fun _ => rfl) ∗ free (F := F) c (m.slice (row 4 a b 3) fun _ => rfl)) : sProp 𝕄) ⊢ free c m :=
  (Entails.of_eq (bigSep_univ_eq_bigSepL [0, 1, 2, 3] (by decide) (by decide) (fun i => free (F := F) c (m.slice (row 4 a b i) fun _ => rfl))).symm).trans
    (uncut_free c m (row 4 a b) (fun _ _ => rfl) (row_disjoint 4 a b) (row_cover 4 a b))
theorem cut3 {a b : ℕ} {e : EltTy} (m : Memref sig .tc .vmem ⟨3, ![3, a, b]⟩ e) :
    (free c m : sProp 𝕄) ⊢ iprop(free (F := F) c (m.slice (row 3 a b 0) fun _ => rfl) ∗ free (F := F) c (m.slice (row 3 a b 1) fun _ => rfl)
      ∗ free (F := F) c (m.slice (row 3 a b 2) fun _ => rfl)) :=
  (cut c m (row 3 a b) (fun _ _ => rfl) (row_disjoint 3 a b) (row_cover 3 a b)).trans
    (Entails.of_eq (bigSep_univ_eq_bigSepL [0, 1, 2] (by decide) (by decide) _))
theorem join3 {a b : ℕ} {e : EltTy} (m : Memref sig .tc .vmem ⟨3, ![3, a, b]⟩ e) :
    (iprop(free (F := F) c (m.slice (row 3 a b 0) fun _ => rfl) ∗ free (F := F) c (m.slice (row 3 a b 1) fun _ => rfl)
      ∗ free (F := F) c (m.slice (row 3 a b 2) fun _ => rfl)) : sProp 𝕄) ⊢ free c m :=
  (Entails.of_eq (bigSep_univ_eq_bigSepL [0, 1, 2] (by decide) (by decide) (fun i => free (F := F) c (m.slice (row 3 a b i) fun _ => rfl))).symm).trans
    (uncut_free c m (row 3 a b) (fun _ _ => rfl) (row_disjoint 3 a b) (row_cover 3 a b))

/-- The result's two halves. -/
theorem half_inb (i : Fin 2) : ∀ k, (![512 * i.val, 0] : Fin 2 → ℕ) k + S512x1024.size k ≤ S1024x1024.size k := fun k => by
  fin_cases i <;> fin_cases k <;> decide
abbrev half (i : Fin 2) : Rect S1024x1024 := Rect.unit (s := S1024x1024) ![512 * i.val, 0] S512x1024.size (half_inb i)
theorem half_disjoint (i j : Fin 2) (h : i ≠ j) : Disjoint (half i).set (half j).set := by
  rw [Finset.disjoint_left]
  intro x hx hy
  have h1 := (Rect.mem_set_unit.mp hx) 0
  have h2 := (Rect.mem_set_unit.mp hy) 0
  have e1 : (![512 * i.val, 0] : Fin 2 → ℕ) 0 = 512 * i.val := rfl
  have e2 : (![512 * j.val, 0] : Fin 2 → ℕ) 0 = 512 * j.val := rfl
  have e3 : S512x1024.size 0 = 512 := rfl
  rw [e1, e3] at h1; rw [e2, e3] at h2
  exact h (Fin.ext (by omega))
theorem half_cover : (Finset.univ : Finset (Fin 2)).biUnion (fun i => (half i).set) = Finset.univ := by
  refine Finset.eq_univ_of_forall fun x => ?_
  have h0 : (x 0).val < 1024 := (x 0).isLt
  refine Finset.mem_biUnion.mpr ⟨⟨(x 0).val / 512, by omega⟩, Finset.mem_univ _, Rect.mem_set_unit.mpr fun k => ?_⟩
  fin_cases k
  · show 512 * ((x 0).val / 512) ≤ (x 0).val ∧ (x 0).val < 512 * ((x 0).val / 512) + 512
    omega
  · exact ⟨Nat.zero_le _, by have := (x 1).isLt; exact lt_of_lt_of_eq this (Nat.zero_add 1024).symm⟩

/-- A device's result: its two halves. -/
def halves (A : In F) (c : Dev nD) (i : Fin 2) : (half i).shape.Idx → Elt F .f32 := match i with
  | ⟨0, _⟩ => resT A c
  | ⟨1, _⟩ => resB A c
def outAt (A : In F) (c : Dev nD) : Vec F S1024x1024 .f32 := Rect.glue half half_cover (halves A c)

theorem cut_out : (free c (Memref.whole cc0_stg4_0) : sProp 𝕄) ⊢ iprop(free (F := F) c OT ∗ free (F := F) c OB) :=
  (cut c (Memref.whole cc0_stg4_0) half (fun _ _ => rfl) half_disjoint half_cover).trans
    (Entails.of_eq (bigSep_univ_eq_bigSepL [0, 1] (by decide) (by decide) _))
theorem join_out (A : In F) : (iprop(has c OT fullShare (resT A c) ∗ has c OB fullShare (resB A c)) : sProp 𝕄) ⊢ has c (Memref.whole cc0_stg4_0) fullShare (outAt A c) :=
  (Entails.of_eq (bigSep_univ_eq_bigSepL [0, 1] (by decide) (by decide) (fun i => has c ((Memref.whole cc0_stg4_0).slice (half i) fun _ => rfl) fullShare (halves A c i))).symm).trans
    (uncut c (Memref.whole cc0_stg4_0) half (fun _ _ => rfl) half_disjoint half_cover (halves A c))

/-- The buffers transfers use, whole. -/
def bufs : sProp 𝕄 := iprop(free (F := F) c (Memref.whole cc0_scratch0) ∗ free (F := F) c (Memref.whole cc0_scratch1) ∗ free (F := F) c (Memref.whole cc0_scratch2) ∗ free (F := F) c (Memref.whole cc0_scratch3) ∗ free (F := F) c (Memref.whole cc0_scratch5) ∗ free (F := F) c (Memref.whole cc0_scratch6) ∗ free (F := F) c (Memref.whole cc0_scratch7) ∗ free (F := F) c (Memref.whole cc0_scratch8))
/-- A device's own slots, -/
def mine : sProp 𝕄 := iprop(free (F := F) c xR0 ∗ free (F := F) c wR0 ∗ free (F := F) c xL0 ∗ free (F := F) c wL0 ∗ free (F := F) c sR0 ∗ free (F := F) c sR1 ∗ free (F := F) c sR2 ∗ free (F := F) c sL0 ∗ free (F := F) c sL1 ∗ free (F := F) c sL2)
theorem rights_eq : bigSep rights (fun t => dstFree (F := F) t c) = iprop(free (F := F) c xR1 ∗ free (F := F) c wR1 ∗ free (F := F) c xR2 ∗ free (F := F) c wR2 ∗ free (F := F) c rR0 ∗ free (F := F) c xR3 ∗ free (F := F) c wR3 ∗ free (F := F) c rR1 ∗ free (F := F) c rR2) := by
  rw [bigSep_eq_bigSepL_of_eq [0, 1, 4, 5, 6, 10, 11, 12, 16] (by decide) (by decide)]; rfl
theorem lefts_eq : bigSep lefts (fun t => dstFree (F := F) t c) = iprop(free (F := F) c xL1 ∗ free (F := F) c wL1 ∗ free (F := F) c xL2 ∗ free (F := F) c wL2 ∗ free (F := F) c rL0 ∗ free (F := F) c xL3 ∗ free (F := F) c wL3 ∗ free (F := F) c rL1 ∗ free (F := F) c rL2) := by
  rw [bigSep_eq_bigSepL_of_eq [2, 3, 7, 8, 9, 13, 14, 15, 17] (by decide) (by decide)]; rfl
theorem bufs_cut : (bufs (F := F) c) ⊢ iprop(mine (F := F) c ∗ (bigSep rights fun t => dstFree (F := F) t c) ∗ bigSep lefts fun t => dstFree (F := F) t c) := by
  rw [rights_eq, lefts_eq]; unfold bufs mine
  iintro ⟨BxR, BwR, BxL, BwL, BsR, BrR, BsL, BrL⟩
  ihave H := (show (free c (Memref.whole cc0_scratch0) : sProp 𝕄) ⊢ iprop(free (F := F) c xR0 ∗ free (F := F) c xR1 ∗ free (F := F) c xR2 ∗ free (F := F) c xR3) from cut4 c _) $$ BxR
  icases H with ⟨HxR0, HxR1, HxR2, HxR3⟩
  ihave H := (show (free c (Memref.whole cc0_scratch1) : sProp 𝕄) ⊢ iprop(free (F := F) c wR0 ∗ free (F := F) c wR1 ∗ free (F := F) c wR2 ∗ free (F := F) c wR3) from cut4 c _) $$ BwR
  icases H with ⟨HwR0, HwR1, HwR2, HwR3⟩
  ihave H := (show (free c (Memref.whole cc0_scratch2) : sProp 𝕄) ⊢ iprop(free (F := F) c xL0 ∗ free (F := F) c xL1 ∗ free (F := F) c xL2 ∗ free (F := F) c xL3) from cut4 c _) $$ BxL
  icases H with ⟨HxL0, HxL1, HxL2, HxL3⟩
  ihave H := (show (free c (Memref.whole cc0_scratch3) : sProp 𝕄) ⊢ iprop(free (F := F) c wL0 ∗ free (F := F) c wL1 ∗ free (F := F) c wL2 ∗ free (F := F) c wL3) from cut4 c _) $$ BwL
  icases H with ⟨HwL0, HwL1, HwL2, HwL3⟩
  ihave H := (show (free c (Memref.whole cc0_scratch5) : sProp 𝕄) ⊢ iprop(free (F := F) c sR0 ∗ free (F := F) c sR1 ∗ free (F := F) c sR2) from cut3 c _) $$ BsR
  icases H with ⟨HsR0, HsR1, HsR2⟩
  ihave H := (show (free c (Memref.whole cc0_scratch6) : sProp 𝕄) ⊢ iprop(free (F := F) c rR0 ∗ free (F := F) c rR1 ∗ free (F := F) c rR2) from cut3 c _) $$ BrR
  icases H with ⟨HrR0, HrR1, HrR2⟩
  ihave H := (show (free c (Memref.whole cc0_scratch7) : sProp 𝕄) ⊢ iprop(free (F := F) c sL0 ∗ free (F := F) c sL1 ∗ free (F := F) c sL2) from cut3 c _) $$ BsL
  icases H with ⟨HsL0, HsL1, HsL2⟩
  ihave H := (show (free c (Memref.whole cc0_scratch8) : sProp 𝕄) ⊢ iprop(free (F := F) c rL0 ∗ free (F := F) c rL1 ∗ free (F := F) c rL2) from cut3 c _) $$ BrL
  icases H with ⟨HrL0, HrL1, HrL2⟩
  isplitl [HxR0 HwR0 HxL0 HwL0 HsR0 HsR1 HsR2 HsL0 HsL1 HsL2]
  · isplitl [HxR0]; · iexact HxR0
    isplitl [HwR0]; · iexact HwR0
    isplitl [HxL0]; · iexact HxL0
    isplitl [HwL0]; · iexact HwL0
    isplitl [HsR0]; · iexact HsR0
    isplitl [HsR1]; · iexact HsR1
    isplitl [HsR2]; · iexact HsR2
    isplitl [HsL0]; · iexact HsL0
    isplitl [HsL1]; · iexact HsL1
    iexact HsL2
  isplitl [HxR1 HwR1 HxR2 HwR2 HrR0 HxR3 HwR3 HrR1 HrR2]
  · isplitl [HxR1]; · iexact HxR1
    isplitl [HwR1]; · iexact HwR1
    isplitl [HxR2]; · iexact HxR2
    isplitl [HwR2]; · iexact HwR2
    isplitl [HrR0]; · iexact HrR0
    isplitl [HxR3]; · iexact HxR3
    isplitl [HwR3]; · iexact HwR3
    isplitl [HrR1]; · iexact HrR1
    iexact HrR2
  isplitl [HxL1]; · iexact HxL1
  isplitl [HwL1]; · iexact HwL1
  isplitl [HxL2]; · iexact HxL2
  isplitl [HwL2]; · iexact HwL2
  isplitl [HrL0]; · iexact HrL0
  isplitl [HxL3]; · iexact HxL3
  isplitl [HwL3]; · iexact HwL3
  isplitl [HrL1]; · iexact HrL1
  iexact HrL2

theorem bufs_join : (iprop((free (F := F) c xR0 ∗ free (F := F) c xR1 ∗ free (F := F) c xR2 ∗ free (F := F) c xR3) ∗ (free (F := F) c wR0 ∗ free (F := F) c wR1 ∗ free (F := F) c wR2 ∗ free (F := F) c wR3) ∗ (free (F := F) c xL0 ∗ free (F := F) c xL1 ∗ free (F := F) c xL2 ∗ free (F := F) c xL3) ∗ (free (F := F) c wL0 ∗ free (F := F) c wL1 ∗ free (F := F) c wL2 ∗ free (F := F) c wL3) ∗ (free (F := F) c sR0 ∗ free (F := F) c sR1 ∗ free (F := F) c sR2) ∗ (free (F := F) c rR0 ∗ free (F := F) c rR1 ∗ free (F := F) c rR2) ∗ (free (F := F) c sL0 ∗ free (F := F) c sL1 ∗ free (F := F) c sL2) ∗ (free (F := F) c rL0 ∗ free (F := F) c rL1 ∗ free (F := F) c rL2)) : sProp 𝕄) ⊢ bufs (F := F) c := by
  unfold bufs
  iintro ⟨HxR, HwR, HxL, HwL, HsR, HrR, HsL, HrL⟩
  ihave HxR := (show (iprop(free (F := F) c xR0 ∗ free (F := F) c xR1 ∗ free (F := F) c xR2 ∗ free (F := F) c xR3) : sProp 𝕄) ⊢ free c (Memref.whole cc0_scratch0) from join4 c _) $$ HxR
  ihave HwR := (show (iprop(free (F := F) c wR0 ∗ free (F := F) c wR1 ∗ free (F := F) c wR2 ∗ free (F := F) c wR3) : sProp 𝕄) ⊢ free c (Memref.whole cc0_scratch1) from join4 c _) $$ HwR
  ihave HxL := (show (iprop(free (F := F) c xL0 ∗ free (F := F) c xL1 ∗ free (F := F) c xL2 ∗ free (F := F) c xL3) : sProp 𝕄) ⊢ free c (Memref.whole cc0_scratch2) from join4 c _) $$ HxL
  ihave HwL := (show (iprop(free (F := F) c wL0 ∗ free (F := F) c wL1 ∗ free (F := F) c wL2 ∗ free (F := F) c wL3) : sProp 𝕄) ⊢ free c (Memref.whole cc0_scratch3) from join4 c _) $$ HwL
  ihave HsR := (show (iprop(free (F := F) c sR0 ∗ free (F := F) c sR1 ∗ free (F := F) c sR2) : sProp 𝕄) ⊢ free c (Memref.whole cc0_scratch5) from join3 c _) $$ HsR
  ihave HrR := (show (iprop(free (F := F) c rR0 ∗ free (F := F) c rR1 ∗ free (F := F) c rR2) : sProp 𝕄) ⊢ free c (Memref.whole cc0_scratch6) from join3 c _) $$ HrR
  ihave HsL := (show (iprop(free (F := F) c sL0 ∗ free (F := F) c sL1 ∗ free (F := F) c sL2) : sProp 𝕄) ⊢ free c (Memref.whole cc0_scratch7) from join3 c _) $$ HsL
  ihave HrL := (show (iprop(free (F := F) c rL0 ∗ free (F := F) c rL1 ∗ free (F := F) c rL2) : sProp 𝕄) ⊢ free c (Memref.whole cc0_scratch8) from join3 c _) $$ HrL
  isplitl [HxR]; · iexact HxR
  isplitl [HwR]; · iexact HwR
  isplitl [HxL]; · iexact HxL
  isplitl [HwL]; · iexact HwL
  isplitl [HsR]; · iexact HsR
  isplitl [HrR]; · iexact HrR
  isplitl [HsL]; · iexact HsL
  iexact HrL

theorem has_join_free {s : Shape} {e : EltTy} (B : Memref sig .tc .vmem s e) (v : s.Idx → Elt F e) :
    (iprop(has c B hL v ∗ has c B hR v) : sProp 𝕄) ⊢ free c B := (has_join c B v).trans (has_free c B v)

end Buffers

section Barrier
variable (A : In F) (K : Dev nD × Option (Bool × Fin 18) → ℕ) (c : Dev nD)

/-- What a device pays its transfers with: the duty tokens of the cells it makes whole, -/
def tokT (t : Fin 18) (c : Dev nD) : sProp 𝕄 := iprop(dutyTok ER (sCell t c) 0 false ∗ dutyTok ER (vCell t (tgt t c)) 0 false)

/-- and, once both neighbours have arrived, the slots it sends into. -/
theorem pay_intro (W : Waits sig Unit) : iprop((bigSep Finset.univ fun t => tokT (F := F) t c) ∗ (bigSep lefts fun t => dstFree (F := F) t (prv c))
      ∗ (bigSep rights fun t => dstFree (F := F) t (nxt c)) ∗ owes (c : Thread nD τ) (owed 0 c) W) ⊢ Pay (F := F) 0 c := by
  unfold Pay
  rw [show fromT 0 = (Finset.univ : Finset (Fin 18)) from by decide]
  iintro ⟨Htok, HL, HR, HO⟩
  isplitr [HO]
  · iapply (show (bigSep Finset.univ (fun t => iprop(tokT (F := F) t c ∗ dstFree (F := F) t (tgt t c))) : sProp 𝕄) ⊢ bigSep Finset.univ fun t => outT (F := F) t c from
      bigSep_mono fun t _ => by
        show (iprop(tokT (F := F) t c ∗ dstFree (F := F) t (tgt t c)) : sProp 𝕄) ⊢ outT (F := F) t c
        unfold outT tokT; iintro ⟨⟨H1, H2⟩, H3⟩
        isplitl [H1]; · iexact H1
        isplitl [H2]; · iexact H2
        iexact H3)
    rw [bigSep_sep']
    isplitl [Htok]; · iexact Htok
    rw [big_split Finset.univ (fun t => goesR t = true)]
    isplitl [HR]
    · iapply (Entails.of_eq (bigSep_congr (s := rights) (Φ := fun t => dstFree (F := F) t (nxt c)) fun t ht => by
        unfold tgt; rw [if_pos (Finset.mem_filter.mp ht).2])); iexact HR
    · iapply (Entails.of_eq (bigSep_congr (s := lefts) (Φ := fun t => dstFree (F := F) t (prv c)) fun t ht => by
        unfold tgt; rw [if_neg (Finset.mem_filter.mp ht).2])); iexact HL
  · iexists W; iexact HO

theorem part1 {Q : _ → sProp 𝕄} (W : Waits sig Unit) :
    iprop(facts (vals A) K ∗ owes (c : Thread nD τ) (O₀ c) W ∗ dutyTok ER (barCell (prv c)) 0 true ∗ dutyTok ER (barCell (nxt c)) 0 false
        ∗ cred (tallyAt (barCell c) () 2) ∗ atPos ER (barCell c) 0 ∅ 0
        ∗ (bigSep rights fun t => dstFree (F := F) t c) ∗ (bigSep lefts fun t => dstFree (F := F) t c) ∗ (bigSep Finset.univ fun t => tokT (F := F) t c)
        ∗ holds c (Memref.whole cc0_stg0_0) (A.x c) ∗ holds c (Memref.whole cc0_stg1_0) (A.rw c) ∗ holds c (Memref.whole cc0_stg2_0) (A.idx c))
      ⊢ iprop((∀ w w', (Pay (F := F) 0 c ∗ semVal (barCell c) 0
          ∗ holds c (Memref.whole cc0_stg0_0) (A.x c) ∗ holds c (Memref.whole cc0_stg1_0) (A.rw c) ∗ holds c (Memref.whole cc0_stg2_0) (A.idx c)) -∗ Q ⟨c, v2 c, w, w', v22 A c, v27, v29 A c, v30 A c⟩)
        -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HF, HO, HtP, HtN, HcB, HatB, HR, HL, Htok, HX, HW, HI⟩ Hk
  ihave #IP := (facts_inv (vals A) K (prv c, none)) $$ HF
  ihave #IN := (facts_inv (vals A) K (nxt c, none)) $$ HF
  ihave #IB := (facts_inv (vals A) K (c, none)) $$ HF
  ihave #RP := (facts_reached (vals A) K (prv c, none)) $$ HF
  ihave #RN := (facts_reached (vals A) K (nxt c, none)) $$ HF
  ihave #Hlev := (facts_lev (vals A) K) $$ HF
  simp only [dev1_eq c, dev2_eq c]
  iapply (Rounds.wp_signal 𝒱₀ ER (sched (vals A)) (c : Thread nD τ) none (dst := (prv c : Thread nD τ)) (κ := K (prv c, none))
      (d := true) (by rw [duties_bar]; exact Finset.mem_univ _) rfl () (O₁ c) rfl) $$ [HO HtP HR]
  · isplitr; · iexact IP
    isplitl [HO]; · iexact HO
    isplitl [HtP]; · iexact HtP
    isplitl [HR]
    · iapply (Entails.of_eq (show (bigSep rights fun t => dstFree (F := F) t c) = (sched (vals A)).payload ((prv c : Thread nD τ), SemLoc.reg (SemArray.scalar (sig.barrier 0 rfl) : Sems sig S_).sem) 0 true from by show _ = barPay (F := F) true (prv c); unfold barPay; rw [if_pos rfl, nxt_prv])); iexact HR
    · iexact RP
  iintro HO
  iapply (Rounds.wp_signal 𝒱₀ ER (sched (vals A)) (c : Thread nD τ) none (dst := (nxt c : Thread nD τ)) (κ := K (nxt c, none))
      (d := false) (by rw [duties_bar]; exact Finset.mem_univ _) rfl () (owed 0 c) rfl) $$ [HO HtN HL]
  · isplitr; · iexact IN
    isplitl [HO]; · iexact HO
    isplitl [HtN]; · iexact HtN
    isplitl [HL]
    · iapply (Entails.of_eq (show (bigSep lefts fun t => dstFree (F := F) t c) = (sched (vals A)).payload ((nxt c : Thread nD τ), SemLoc.reg (SemArray.scalar (sig.barrier 0 rfl) : Sems sig S_).sem) 0 false from by show _ = barPay (F := F) false (nxt c); unfold barPay; rw [if_neg Bool.false_ne_true, prv_nxt])); iexact HL
    · iexact RN
  iintro HO
  iapply (Rounds.wp_wait_rest_token 𝒱₀ ER (sched (vals A)) (c : Thread nD τ) none (κ := K (c, none))
      (wpE_semWait_eq 𝒱₀ (c : Thread nD τ) none Set.univ) (Set.mem_univ _) () (O := owed 0 c) (W := W) (R := 0) (m := 0) (T := ∅)
      (by rw [show (sched (vals A)).expect (((c : Dev nD) : Thread nD τ), SemLoc.reg barS) 0 = 2 from expect_bar (vals A) c]; decide)) $$ [HcB HO HatB]
  · isplitr; · iexact IB
    isplitl [HcB]; · iexact HcB
    isplitl [HO]; · iexact HO
    isplitr; · iapply (mayWait_owed c (SemLoc.reg barS) 0 (by rw [lv_bar]; decide)); iexact Hlev
    iexact HatB
  iintro ⟨HO, HatB, -, Hpay⟩
  ihave Hp := (Entails.of_eq (rest_bar (vals A) c)) $$ Hpay
  icases Hp with ⟨HL, HR⟩
  imod (Rounds.cell_close ER (sched (vals A)) (Set.mem_univ (K (c, none))) (fun h => h) (R := 0 + 1) (duties_later (vals A) (barCell c))) $$ [HatB] with Hz
  · isplitr; · iexact IB
    iexact HatB
  ihave HP := (pay_intro c _) $$ [Htok HL HR HO]
  · isplitl [Htok]; · iexact Htok
    isplitl [HL]; · iexact HL
    isplitl [HR]; · iexact HR
    iexact HO
  iapply (step_peek c _ _ (fun _ => rfl) (peek0 A c)) $$ HX; iintro HX
  iapply (step_peek c _ _ (fun _ => rfl) (peek1 A c)) $$ HW; iintro HW
  iapply (step_peek c _ _ (fun _ => rfl) (show _ = col0 A c from rfl)) $$ HI; iintro HI
  iapply (step_peek c _ _ (fun _ => rfl) (show _ = col1 A c from rfl)) $$ HI; iintro HI
  rw [wp_ret]; imodintro
  iapply (Entails.of_eq (show Q ⟨c, v2 c, (Scalar.remsi (Scalar.addi (Scalar.remsi (Scalar.divsi c.word 1#32) 4#32) 1#32) 4#32), (Scalar.remsi (Scalar.subi (Scalar.addi (Scalar.remsi (Scalar.divsi c.word 1#32) 4#32) 4#32) 1#32) 4#32), v22 A c, v27, v29 A c, v30 A c⟩ = Q ⟨c, (Scalar.remsi (Scalar.divsi c.word 1#32) 4#32), (Scalar.remsi (Scalar.addi (Scalar.remsi (Scalar.divsi c.word 1#32) 4#32) 1#32) 4#32), (Scalar.remsi (Scalar.subi (Scalar.addi (Scalar.remsi (Scalar.divsi c.word 1#32) 4#32) 4#32) 1#32) 4#32), k0_pay2 (A.x c) (A.rw c), (iota Kind.tc S1024x16 32 [1] iota_S1024x16_d1_w32), k0_pay3 (col0 A c), k0_pay4 (col1 A c)⟩ from rfl))
  iapply Hk
  isplitl [HP]; · iexact HP
  isplitl [Hz]; · iexact Hz
  isplitl [HX]; · iexact HX
  isplitl [HW]; · iexact HW
  iexact HI

end Barrier

section Body
variable (A : In F) (K : Dev nD × Option (Bool × Fin 18) → ℕ) (c : Dev nD)

/-- What the body starts from. -/
def bodyPre (c : Dev nD) (W : Waits sig Unit) : sProp 𝕄 :=
  iprop(facts (vals A) K ∗ owes (c : Thread nD τ) (O₀ c) W ∗ dutyTok ER (barCell (prv c)) 0 true ∗ dutyTok ER (barCell (nxt c)) 0 false
    ∗ cred (tallyAt (barCell c) () 2) ∗ atPos ER (barCell c) 0 ∅ 0
    ∗ (bigSep Finset.univ fun t => tokT (F := F) t c) ∗ (bigSep Finset.univ fun t => inT (F := F) t c)
    ∗ bufs (F := F) c ∗ (∃ f, holds (F := F) c (Memref.whole cc0_scratch4) f)
    ∗ holds c (Memref.whole cc0_stg0_0) (A.x c) ∗ holds c (Memref.whole cc0_stg1_0) (A.rw c) ∗ holds c (Memref.whole cc0_stg2_0) (A.idx c)
    ∗ holds c (Memref.whole cc0_stg3_0) (A.ew c) ∗ free (F := F) c (Memref.whole cc0_stg4_0))
/-- What it leaves. -/
def bodyPost (c : Dev nD) : sProp 𝕄 :=
  iprop((∃ W, owes (c : Thread nD τ) 0 W) ∗ semVal (barCell c) 0 ∗ (bigSep Finset.univ fun t => doneT (F := F) t c)
    ∗ bufs (F := F) c ∗ (∃ f, holds (F := F) c (Memref.whole cc0_scratch4) f)
    ∗ holds c (Memref.whole cc0_stg0_0) (A.x c) ∗ holds c (Memref.whole cc0_stg1_0) (A.rw c) ∗ holds c (Memref.whole cc0_stg2_0) (A.idx c)
    ∗ holds c (Memref.whole cc0_stg3_0) (A.ew c) ∗ has c (Memref.whole cc0_stg4_0) fullShare (outAt A c))

theorem clk_intro : (bigSep Finset.univ fun t => inT (F := F) t c) ⊢ Clk (F := F) 0 c := by
  unfold Clk
  rw [show fromT 0 = (Finset.univ : Finset (Fin 18)) from by decide, show upto 0 = (∅ : Finset (Fin 18)) from by decide, bigSep_empty]
  iintro H
  isplitr; · iempintro
  iexact H
theorem clk_done {i : ℕ} (h : i = 18) : Clk (F := F) i c ⊢ bigSep Finset.univ fun t => doneT (F := F) t c := by
  subst h; unfold Clk
  rw [show upto 18 = (Finset.univ : Finset (Fin 18)) from by decide]
  iintro ⟨H, -⟩; iexact H
theorem pay_done {i : ℕ} (h : i = 18) : Pay (F := F) i c ⊢ ∃ W, owes (c : Thread nD τ) 0 W := by
  subst h; unfold Pay; rw [owed_end]
  iintro ⟨-, H⟩; iexact H

set_option maxHeartbeats 4000000 in
/-- The body, part by part. -/
theorem sound_body (W : Waits sig Unit) (Kt : PUnit → sProp 𝕄) :
    iprop(bodyPre A K c W ∗ (bodyPost A c -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20) Kt := by
  rw [cc0_body_eq_skeleton]; unfold cc0_body_skel
  simp only [Prog.lift, Prog.bind_op, Prog.bind_ret, Prog.pure_eq_ret, Prog.bind_assoc, wp_bind]
  unfold bodyPre
  iintro ⟨⟨#HF, HO, HtP, HtN, HcB, HatB, Htok, HC, Hbufs, HE, HX, HW, HI, HD, Hout⟩, Hk⟩
  ihave HC := (clk_intro c) $$ HC
  ihave H := (bufs_cut c) $$ Hbufs
  icases H with ⟨Hmine, HR, HL⟩
  ihave H := (Entails.of_eq (show mine (F := F) c = _ from by unfold mine; rfl)) $$ Hmine
  icases H with ⟨HxR0, HwR0, HxL0, HwL0, HsR0, HsR1, HsR2, HsL0, HsL1, HsL2⟩
  ihave H := (cut_out c) $$ Hout
  icases H with ⟨HOT, HOB⟩
  iapply (part1 A K c W) $$ [HO HtP HtN HcB HatB HR HL Htok HX HW HI]
  · isplitr; · iexact HF
    isplitl [HO]; · iexact HO
    isplitl [HtP]; · iexact HtP
    isplitl [HtN]; · iexact HtN
    isplitl [HcB]; · iexact HcB
    isplitl [HatB]; · iexact HatB
    isplitl [HR]; · iexact HR
    isplitl [HL]; · iexact HL
    isplitl [Htok]; · iexact Htok
    isplitl [HX]; · iexact HX
    isplitl [HW]; · iexact HW
    iexact HI
  iintro %w4 %w7 ⟨HP, Hz, HX, HW, HI⟩
  iapply (part2 A c) $$ [HX HxR0 HxL0 HwR0]
  · isplitl [HX]; · iexact HX
    isplitl [HxR0]; · iexact HxR0
    isplitl [HxL0]; · iexact HxL0
    iexact HwR0
  iintro ⟨HX, HxR0, HxL0, HwR0⟩
  iapply (part3 A K c _) $$ [HwL0 HD HE HP HxR0 HwR0]
  · isplitr; · iexact HF
    isplitl [HwL0]; · iexact HwL0
    isplitl [HD]; · iexact HD
    isplitl [HE]; · iexact HE
    isplitl [HP]; · iexact HP
    isplitl [HxR0]; · iexact HxR0
    iexact HwR0
  iintro ⟨HwL0, HD, HE, HP, HxR0, HFl0, HwR0, HFl1⟩
  iapply (part4 A K c _) $$ [HP HxL0 HwL0 HxR0 HwR0]
  · isplitr; · iexact HF
    isplitl [HP]; · iexact HP
    isplitl [HxL0]; · iexact HxL0
    isplitl [HwL0]; · iexact HwL0
    isplitl [HxR0]; · iexact HxR0
    iexact HwR0
  iintro ⟨HP, HxL0, HFl2, HwL0, HFl3, HxR0, HwR0⟩
  iapply (part5 A c) $$ HE
  iintro HE
  iapply (part6 A c) $$ [HE HxL0 HwL0]
  · isplitl [HE]; · iexact HE
    isplitl [HxL0]; · iexact HxL0
    iexact HwL0
  iintro ⟨HE, HxL0, HwL0⟩
  iapply (part7 A c) $$ HE
  iintro HE
  iapply (part8 A K c _) $$ [HP HC HFl0 HFl1]
  · isplitr; · iexact HF
    isplitl [HP]; · iexact HP
    isplitl [HC]; · iexact HC
    isplitl [HFl0]; · iexact HFl0
    iexact HFl1
  iintro %w8 ⟨HP, HC, HLxR0, HxR1, HLwR0⟩
  iapply (part9 A K c _ _) $$ [HP HC HxR1]
  · isplitr; · iexact HF
    isplitl [HP]; · iexact HP
    isplitl [HC]; · iexact HC
    iexact HxR1
  iintro ⟨HP, HC, HwR1, HxR1, HFl4, HFl5⟩
  iapply (part10 A c) $$ [HwR1 HE]
  · isplitl [HwR1]; · iexact HwR1
    iexact HE
  iintro ⟨HwR1, HE⟩
  iapply (part11 A c _) $$ [HE HsR0]
  · isplitl [HE]; · iexact HE
    iexact HsR0
  iintro ⟨HE, HsR0⟩
  iapply (part12 A K c _) $$ [HP HsR0 HC HFl2 HFl3]
  · isplitr; · iexact HF
    isplitl [HP]; · iexact HP
    isplitl [HsR0]; · iexact HsR0
    isplitl [HC]; · iexact HC
    isplitl [HFl2]; · iexact HFl2
    iexact HFl3
  iintro ⟨HP, HFl6, HC, HLxL0, HxL1, HLwL0⟩
  iapply (part13 A K c _) $$ [HP HC HxL1]
  · isplitr; · iexact HF
    isplitl [HP]; · iexact HP
    isplitl [HC]; · iexact HC
    iexact HxL1
  iintro ⟨HP, HC, HwL1, HxL1, HFl7, HFl8⟩
  iapply (part14 A c) $$ [HxL1 HwL1 HE]
  · isplitl [HxL1]; · iexact HxL1
    isplitl [HwL1]; · iexact HwL1
    iexact HE
  iintro ⟨HxL1, HwL1, HE⟩
  iapply (part15 A c _) $$ [HE HsL0]
  · isplitl [HE]; · iexact HE
    iexact HsL0
  iintro ⟨HE, HsL0⟩
  iapply (part16 A K c _) $$ [HP HsL0 HC HFl4 HFl5]
  · isplitr; · iexact HF
    isplitl [HP]; · iexact HP
    isplitl [HsL0]; · iexact HsL0
    isplitl [HC]; · iexact HC
    isplitl [HFl4]; · iexact HFl4
    iexact HFl5
  iintro ⟨HP, HFl9, HC, HLxR1, HxR2, HLwR1⟩
  iapply (part17 A K c _) $$ [HP HC HxR2]
  · isplitr; · iexact HF
    isplitl [HP]; · iexact HP
    isplitl [HC]; · iexact HC
    iexact HxR2
  iintro ⟨HP, HC, HwR2, HxR2, HFl10, HFl11⟩
  iapply (part18 A c) $$ [HxR2 HwR2 HE]
  · isplitl [HxR2]; · iexact HxR2
    isplitl [HwR2]; · iexact HwR2
    iexact HE
  iintro ⟨HxR2, HwR2, HE⟩
  iapply (part19 A K c) $$ [HE HP HC HFl6]
  · isplitr; · iexact HF
    isplitl [HE]; · iexact HE
    isplitl [HP]; · iexact HP
    isplitl [HC]; · iexact HC
    iexact HFl6
  iintro ⟨HE, HP, HC, HsR0⟩
  iapply (part20 A K c _) $$ [HP HC HsR1]
  · isplitr; · iexact HF
    isplitl [HP]; · iexact HP
    isplitl [HC]; · iexact HC
    iexact HsR1
  iintro ⟨HP, HC, HrR0, HFl12⟩
  iapply (part21 A K c _) $$ [HP HC HFl7 HFl8]
  · isplitr; · iexact HF
    isplitl [HP]; · iexact HP
    isplitl [HC]; · iexact HC
    isplitl [HFl7]; · iexact HFl7
    iexact HFl8
  iintro ⟨HP, HC, HLxL1, HxL2, HLwL1⟩
  iapply (part22 A K c _) $$ [HP HC HxL2]
  · isplitr; · iexact HF
    isplitl [HP]; · iexact HP
    isplitl [HC]; · iexact HC
    iexact HxL2
  iintro ⟨HP, HC, HwL2, HxL2, HFl13, HFl14⟩
  iapply (part23 A c) $$ HE
  iintro HE
  iapply (part24 A K c _) $$ [HE HP HC HFl9]
  · isplitr; · iexact HF
    isplitl [HE]; · iexact HE
    isplitl [HP]; · iexact HP
    isplitl [HC]; · iexact HC
    iexact HFl9
  iintro ⟨HE, HP, HC, HsL0, HrL0⟩
  iapply (part25 A K c _ _) $$ [HrL0 HsL1 HP HC HFl10]
  · isplitr; · iexact HF
    isplitl [HrL0]; · iexact HrL0
    isplitl [HsL1]; · iexact HsL1
    isplitl [HP]; · iexact HP
    isplitl [HC]; · iexact HC
    iexact HFl10
  iintro ⟨HrL0, HP, HFl15, HC, HLxR2⟩
  iapply (part26 A K c _) $$ [HP HC HFl11]
  · isplitr; · iexact HF
    isplitl [HP]; · iexact HP
    isplitl [HC]; · iexact HC
    iexact HFl11
  iintro ⟨HP, HC, HxR3, HLwR2, HwR3⟩
  iapply (part27 A c) $$ HE
  iintro HE
  iapply (part28 A K c _) $$ [HE HP HC HFl12]
  · isplitr; · iexact HF
    isplitl [HE]; · iexact HE
    isplitl [HP]; · iexact HP
    isplitl [HC]; · iexact HC
    iexact HFl12
  iintro ⟨HE, HP, HC, HsR1⟩
  iapply (part29 A K c _ _) $$ [HP HC HsR2 HFl13]
  · isplitr; · iexact HF
    isplitl [HP]; · iexact HP
    isplitl [HC]; · iexact HC
    isplitl [HsR2]; · iexact HsR2
    iexact HFl13
  iintro %w29 ⟨HP, HC, HrR1, HFl16, HLxL2⟩
  iapply (part30 A K c _ _) $$ [HP HC HFl14]
  · isplitr; · iexact HF
    isplitl [HP]; · iexact HP
    isplitl [HC]; · iexact HC
    iexact HFl14
  iintro ⟨HP, HC, HxL3, HLwL2, HwL3⟩
  iapply (part31 A c) $$ HE
  iintro HE
  iapply (part32 A K c _) $$ [HE HP HC HFl15]
  · isplitr; · iexact HF
    isplitl [HE]; · iexact HE
    isplitl [HP]; · iexact HP
    isplitl [HC]; · iexact HC
    iexact HFl15
  iintro ⟨HE, HP, HC, HsL1⟩
  iapply (part33 A K c _) $$ [HP HC HsL2 HFl16]
  · isplitr; · iexact HF
    isplitl [HP]; · iexact HP
    isplitl [HC]; · iexact HC
    isplitl [HsL2]; · iexact HsL2
    iexact HFl16
  iintro ⟨HP, HC, HrL1, HFl17, HsR2⟩
  iapply (part34 A K c _ _) $$ [HP HC HOT HFl17]
  · isplitr; · iexact HF
    isplitl [HP]; · iexact HP
    isplitl [HC]; · iexact HC
    isplitl [HOT]; · iexact HOT
    iexact HFl17
  iintro ⟨HP, HC, HrR2, HOT, HsL2⟩
  iapply (step_wait_recv (vals A) K 17 rfl 18 (by decide) c rfl (src := sL2.squeeze S512x1024 squeezes_S1x512x1024_S512x1024) (dst := rL2.squeeze S512x1024 squeezes_S1x512x1024_S512x1024) rfl) $$ [HC HP]
  · isplitr; · iexact HF
    isplitl [HC]; · iexact HC
    iexact HP
  iintro ⟨HC, HrL2, HP⟩
  ihave HrL2 := (Entails.of_eq (show recvPay (vals A) 17 c = has c rL2 fullShare (sl2 A (nxt c)) from rfl)) $$ HrL2
  iapply (step_load c _ _ (fun _ => rfl)) $$ HrL2; iintro HrL2
  iapply (step_load_free c _ _ (fun _ => rfl)) $$ HOB; iintro %_ HOB
  iapply (step_store c _ _ (fun _ => rfl)) $$ HOB; iintro HOB
  rw [wp_ret]; imodintro; iapply Hk
  unfold bodyPost
  ihave HP := (pay_done c rfl) $$ HP
  ihave HC := (clk_done c (i := (17 : Fin 18).val + 1) rfl) $$ HC
  ihave HxR0 := (has_join_free c xR0 _) $$ [HLxR0 HxR0]
  · isplitl [HLxR0]; · iexact HLxR0
    iexact HxR0
  ihave HxR1 := (has_join_free c xR1 _) $$ [HLxR1 HxR1]
  · isplitl [HLxR1]; · iexact HLxR1
    iexact HxR1
  ihave HxR2 := (has_join_free c xR2 _) $$ [HLxR2 HxR2]
  · isplitl [HLxR2]; · iexact HLxR2
    iexact HxR2
  ihave HxR3 := (has_free c xR3 _) $$ HxR3
  ihave HwR0 := (has_join_free c wR0 _) $$ [HLwR0 HwR0]
  · isplitl [HLwR0]; · iexact HLwR0
    iexact HwR0
  ihave HwR1 := (has_join_free c wR1 _) $$ [HLwR1 HwR1]
  · isplitl [HLwR1]; · iexact HLwR1
    iexact HwR1
  ihave HwR2 := (has_join_free c wR2 _) $$ [HLwR2 HwR2]
  · isplitl [HLwR2]; · iexact HLwR2
    iexact HwR2
  ihave HwR3 := (has_free c wR3 _) $$ HwR3
  ihave HxL0 := (has_join_free c xL0 _) $$ [HLxL0 HxL0]
  · isplitl [HLxL0]; · iexact HLxL0
    iexact HxL0
  ihave HxL1 := (has_join_free c xL1 _) $$ [HLxL1 HxL1]
  · isplitl [HLxL1]; · iexact HLxL1
    iexact HxL1
  ihave HxL2 := (has_join_free c xL2 _) $$ [HLxL2 HxL2]
  · isplitl [HLxL2]; · iexact HLxL2
    iexact HxL2
  ihave HxL3 := (has_free c xL3 _) $$ HxL3
  ihave HwL0 := (has_join_free c wL0 _) $$ [HLwL0 HwL0]
  · isplitl [HLwL0]; · iexact HLwL0
    iexact HwL0
  ihave HwL1 := (has_join_free c wL1 _) $$ [HLwL1 HwL1]
  · isplitl [HLwL1]; · iexact HLwL1
    iexact HwL1
  ihave HwL2 := (has_join_free c wL2 _) $$ [HLwL2 HwL2]
  · isplitl [HLwL2]; · iexact HLwL2
    iexact HwL2
  ihave HwL3 := (has_free c wL3 _) $$ HwL3
  ihave HsR0 := (has_free c sR0 _) $$ HsR0
  ihave HsR1 := (has_free c sR1 _) $$ HsR1
  ihave HsR2 := (has_free c sR2 _) $$ HsR2
  ihave HrR0 := (has_free c rR0 _) $$ HrR0
  ihave HrR1 := (has_free c rR1 _) $$ HrR1
  ihave HrR2 := (has_free c rR2 _) $$ HrR2
  ihave HsL0 := (has_free c sL0 _) $$ HsL0
  ihave HsL1 := (has_free c sL1 _) $$ HsL1
  ihave HsL2 := (has_free c sL2 _) $$ HsL2
  ihave HrL0 := (has_free c rL0 _) $$ HrL0
  ihave HrL1 := (has_free c rL1 _) $$ HrL1
  ihave HrL2 := (has_free c rL2 _) $$ HrL2
  isplitl [HP]; · iexact HP
  isplitl [Hz]; · iexact Hz
  isplitl [HC]; · iexact HC
  isplitl [HxR0 HxR1 HxR2 HxR3 HwR0 HwR1 HwR2 HwR3 HxL0 HxL1 HxL2 HxL3 HwL0 HwL1 HwL2 HwL3 HsR0 HsR1 HsR2 HrR0 HrR1 HrR2 HsL0 HsL1 HsL2 HrL0 HrL1 HrL2]
  · iapply (bufs_join c)
    isplitl [HxR0 HxR1 HxR2 HxR3]
    · isplitl [HxR0]; · iexact HxR0
      isplitl [HxR1]; · iexact HxR1
      isplitl [HxR2]; · iexact HxR2
      iexact HxR3
    isplitl [HwR0 HwR1 HwR2 HwR3]
    · isplitl [HwR0]; · iexact HwR0
      isplitl [HwR1]; · iexact HwR1
      isplitl [HwR2]; · iexact HwR2
      iexact HwR3
    isplitl [HxL0 HxL1 HxL2 HxL3]
    · isplitl [HxL0]; · iexact HxL0
      isplitl [HxL1]; · iexact HxL1
      isplitl [HxL2]; · iexact HxL2
      iexact HxL3
    isplitl [HwL0 HwL1 HwL2 HwL3]
    · isplitl [HwL0]; · iexact HwL0
      isplitl [HwL1]; · iexact HwL1
      isplitl [HwL2]; · iexact HwL2
      iexact HwL3
    isplitl [HsR0 HsR1 HsR2]
    · isplitl [HsR0]; · iexact HsR0
      isplitl [HsR1]; · iexact HsR1
      iexact HsR2
    isplitl [HrR0 HrR1 HrR2]
    · isplitl [HrR0]; · iexact HrR0
      isplitl [HrR1]; · iexact HrR1
      iexact HrR2
    isplitl [HsL0 HsL1 HsL2]
    · isplitl [HsL0]; · iexact HsL0
      isplitl [HsL1]; · iexact HsL1
      iexact HsL2
    isplitl [HrL0]; · iexact HrL0
    isplitl [HrL1]; · iexact HrL1
    iexact HrL2
  isplitl [HE]; · iexists _; iexact HE
  isplitl [HX]; · iexact HX
  isplitl [HW]; · iexact HW
  isplitl [HI]; · iexact HI
  isplitl [HD]; · iexact HD
  iapply (join_out c A)
  isplitl [HOT]; · iexact HOT
  iexact HOB

end Body

end Cert.Moe

end
-- ==== Proof.Launch.lean ====
/-
# The launch

The body fits the launch, the launch hands out what every device's body starts from, and every run ends.
-/
module

public import proofs.«01_k».proof.Proof.Body

@[expose] public section

noncomputable section

namespace Cert.Moe

open Cert.KernelIdeal Cert.KernelIdeal.Gen
open Idealize.ShloMosaic Idealize.ShloMosaic.TcCoe
open Idealize.ShloMosaic.Pipeline (Dat BodyObligation cellsWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole buffers -/

section Whole
variable (c : Dev nD) (b : Ref sig .tc)

theorem owns_whole_eq (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer held at some contents, -/
def some' : sProp 𝕄 := iprop(∃ f : Buf (Elt F) ((c : Thread nD τ).loc b), ((c : Thread nD τ).loc b) ↦{fullShare} f)
/-- and at known contents. -/
abbrev stg (X : b.ty.Contents (Elt F)) : sProp 𝕄 :=
  iprop(∃ f : Buf (Elt F) (((c : Dev nD) : Thread nD τ).loc b), ⌜f = X⌝ ∗ (((c : Thread nD τ).loc b) ↦{fullShare} f))
end Whole

section Convert
variable (c : Dev nD) {b : Ref sig .tc} {s : Shape} {e : EltTy}

/-- `m` is the whole of buffer `b`. -/
theorem some_free (b : Ref sig .tc) : (some' (F := F) c b) ⊢ iprop(∃ v, owns (Ix := Unit) (Name := ℕ) (U := UU) (Lvl := ℕ) (c : Thread nD τ) (Memref.whole b) fullShare v) := by
  unfold some'
  iintro ⟨%f, H⟩
  iexists f
  rw [owns_whole_eq]
  iexists f
  isplitr; · (ipureintro; rfl)
  iexact H
theorem free_some (b : Ref sig .tc) : iprop(∃ v, owns (Ix := Unit) (Name := ℕ) (U := UU) (Lvl := ℕ) (Val := Elt F) (c : Thread nD τ) (Memref.whole b) fullShare v) ⊢ (some' (F := F) c b) := by
  unfold some'
  iintro ⟨%v, H⟩
  ihave H := (Entails.of_eq (owns_whole_eq c b v)) $$ H
  icases H with ⟨%f, %hf, H⟩
  iexists f; iexact H
theorem whole_held (b : Ref sig .tc) (f : b.ty.Contents (Elt F)) :
    ((Memref.whole b).view.loc (c : Thread nD τ) ↦[(Memref.whole b).view.set]{fullShare} f : sProp 𝕄) = (((c : Thread nD τ).loc b) ↦{fullShare} f) := by
  simp only [Memref.view_whole, View.set_whole]
theorem stg_held (b : Ref sig .tc) (X : b.ty.Contents (Elt F)) : stg c b X ⊢ ((Memref.whole b).view.loc (c : Thread nD τ) ↦[(Memref.whole b).view.set]{fullShare} X : sProp 𝕄) := by
  rw [whole_held]
  iintro ⟨%f, %hf, H⟩
  subst hf; iexact H
theorem held_stg (b : Ref sig .tc) (X : b.ty.Contents (Elt F)) : ((Memref.whole b).view.loc (c : Thread nD τ) ↦[(Memref.whole b).view.set]{fullShare} X : sProp 𝕄) ⊢ stg c b X := by
  rw [whole_held]
  iintro H
  iexists X
  isplitr; · (ipureintro; rfl)
  iexact H
theorem stg_free (b : Ref sig .tc) (X : b.ty.Contents (Elt F)) : stg c b X ⊢ (some' (F := F) c b) := by
  unfold some'
  iintro ⟨%f, %hf, H⟩
  iexists f; iexact H
end Convert

/-! ## What the body starts from and leaves -/

variable (m : (ℓ : Loc nD τ sig) → Buf (Elt F) ℓ) (ρ : Dev nD → PrngReg)

def s₀ : MemSt nD τ sig (Elt F) := ⟨m, fun _ => 0, ρ⟩

/-- The staged arguments. -/
def args : In F where
  x c := (win0_0.blk (0 : Fin 1)).view.read (Elt F) ((s₀ m ρ).mem ((c : Thread nD τ).loc main_arg0))
  rw c := (win0_1.blk (0 : Fin 1)).view.read (Elt F) ((s₀ m ρ).mem ((c : Thread nD τ).loc main_arg1))
  idx c := (win0_2.blk (0 : Fin 1)).view.read (Elt F) ((s₀ m ρ).mem ((c : Thread nD τ).loc main_arg2))
  ew c := (win0_3.blk (0 : Fin 1)).view.read (Elt F) ((s₀ m ρ).mem ((c : Thread nD τ).loc main_arg3))

/-- A device's positions at its cells and the tokens it pays with. -/
def linear (c : Dev nD) : sProp 𝕄 :=
  iprop((atPos ER (barCell c) 0 ∅ 0 ∗ (bigSep Finset.univ fun t => atPos ER (sCell t c) 0 ∅ 0) ∗ bigSep Finset.univ fun t => atPos ER (vCell t c) 0 ∅ 0)
    ∗ dutyTok ER (barCell (prv c)) 0 true ∗ dutyTok ER (barCell (nxt c)) 0 false ∗ bigSep Finset.univ fun t => tokT (F := F) t c)

def G' (c : Dev nD) : sProp 𝕄 := iprop(∃ K, records (vals (args m ρ)) K ∗ linear (F := F) c)

def start (c : Dev nD) : sProp 𝕄 :=
  iprop(G' m ρ c ∗ cred (tallyAt (barCell c) () 2) ∗ (bigSep Finset.univ fun t => cred (tallyAt (vCell t c) () (N t))) ∗ levAts L lv)

/-- The scratch buffers. -/
def scratch (c : Dev nD) : sProp 𝕄 :=
  iprop(some' (F := F) c cc0_scratch0 ∗ some' (F := F) c cc0_scratch1 ∗ some' (F := F) c cc0_scratch2 ∗ some' (F := F) c cc0_scratch3 ∗ some' (F := F) c cc0_scratch4
    ∗ some' (F := F) c cc0_scratch5 ∗ some' (F := F) c cc0_scratch6 ∗ some' (F := F) c cc0_scratch7 ∗ some' (F := F) c cc0_scratch8)

theorem scratch_in (c : Dev nD) : scratch (F := F) c ⊢ iprop(bufs (F := F) c ∗ ∃ f, holds (F := F) c (Memref.whole cc0_scratch4) f) := by
  unfold scratch bufs free
  iintro ⟨H0, H1, H2, H3, H4, H5, H6, H7, H8⟩
  isplitr [H4]
  · isplitl [H0]; · iapply (some_free c cc0_scratch0); iexact H0
    isplitl [H1]; · iapply (some_free c cc0_scratch1); iexact H1
    isplitl [H2]; · iapply (some_free c cc0_scratch2); iexact H2
    isplitl [H3]; · iapply (some_free c cc0_scratch3); iexact H3
    isplitl [H5]; · iapply (some_free c cc0_scratch5); iexact H5
    isplitl [H6]; · iapply (some_free c cc0_scratch6); iexact H6
    isplitl [H7]; · iapply (some_free c cc0_scratch7); iexact H7
    iapply (some_free c cc0_scratch8); iexact H8
  · unfold some'
    icases H4 with ⟨%f, H4⟩
    iexists f
    iapply (Entails.of_eq (whole_held c cc0_scratch4 f).symm); iexact H4

theorem scratch_out (c : Dev nD) : iprop(bufs (F := F) c ∗ ∃ f, holds (F := F) c (Memref.whole cc0_scratch4) f) ⊢ scratch (F := F) c := by
  unfold scratch bufs free
  iintro ⟨⟨H0, H1, H2, H3, H5, H6, H7, H8⟩, ⟨%f, H4⟩⟩
  isplitl [H0]; · iapply (free_some c cc0_scratch0); iexact H0
  isplitl [H1]; · iapply (free_some c cc0_scratch1); iexact H1
  isplitl [H2]; · iapply (free_some c cc0_scratch2); iexact H2
  isplitl [H3]; · iapply (free_some c cc0_scratch3); iexact H3
  isplitl [H4]
  · unfold some'; iexists f
    iapply (Entails.of_eq (whole_held c cc0_scratch4 f)); iexact H4
  isplitl [H5]; · iapply (free_some c cc0_scratch5); iexact H5
  isplitl [H6]; · iapply (free_some c cc0_scratch6); iexact H6
  isplitl [H7]; · iapply (free_some c cc0_scratch7); iexact H7
  iapply (free_some c cc0_scratch8); iexact H8

def Φ₀ (c : Dev nD) : sProp 𝕄 := iprop(start m ρ c ∗ scratch (F := F) c)
def Φ₁ (c : Dev nD) : sProp 𝕄 := iprop(scratch (F := F) c ∗ (bigSep Finset.univ fun t => doneT (F := F) t c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m ρ).x c
    | ⟨1, _⟩ => (args m ρ).rw c
    | ⟨2, _⟩ => (args m ρ).idx c
    | ⟨3, _⟩ => (args m ρ).ew c
    | ⟨4, _⟩ => outAt (args m ρ) c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_in (w : Fin 5) (h : w ≠ 4) : (cfg0.win w).fetch t₀ = true := by
  fin_cases w <;> first | rfl | exact absurd rfl h

set_option maxRecDepth 4000 in
def pre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def post (c : Dev nD) : sProp 𝕄 :=
  iprop(Φ₁ (F := F) c ∗ (dats m ρ 0 c).owesAt () t₀.succ ∗ stg c cc0_stg0_0 ((args m ρ).x c) ∗ stg c cc0_stg1_0 ((args m ρ).rw c)
    ∗ stg c cc0_stg2_0 ((args m ρ).idx c) ∗ stg c cc0_stg3_0 ((args m ρ).ew c) ∗ stg c cc0_stg4_0 (outAt (args m ρ) c))

theorem clock_intro (c : Dev nD) : iprop((bigSep Finset.univ fun t => atPos ER (sCell t c) 0 ∅ 0) ∗ (bigSep Finset.univ fun t => atPos ER (vCell t c) 0 ∅ 0)
      ∗ bigSep Finset.univ fun t => cred (tallyAt (vCell t c) () (N t))) ⊢ (bigSep Finset.univ fun t => inT (F := F) t c : sProp 𝕄) := by
  unfold inT
  rw [bigSep_sep', bigSep_sep']

theorem before_0 (c : Dev nD) (d) : (dats m ρ 0 c).before (0 : Fin 5) t₀ d = (args m ρ).x c := by
  unfold Dat.before; rw [if_pos (fetch_in 0 (by decide))]; rfl
theorem before_1 (c : Dev nD) (d) : (dats m ρ 0 c).before (1 : Fin 5) t₀ d = (args m ρ).rw c := by
  unfold Dat.before; rw [if_pos (fetch_in 1 (by decide))]; rfl
theorem before_2 (c : Dev nD) (d) : (dats m ρ 0 c).before (2 : Fin 5) t₀ d = (args m ρ).idx c := by
  unfold Dat.before; rw [if_pos (fetch_in 2 (by decide))]; rfl
theorem before_3 (c : Dev nD) (d) : (dats m ρ 0 c).before (3 : Fin 5) t₀ d = (args m ρ).ew c := by
  unfold Dat.before; rw [if_pos (fetch_in 3 (by decide))]; rfl

theorem stg_in (c : Dev nD) (b : Ref sig .tc) {D : Type} (X : D → b.ty.Contents (Elt F)) (Y : b.ty.Contents (Elt F)) (h : ∀ d, X d = Y) :
    iprop(∃ d, stg c b (X d)) ⊢ (stg c b Y : sProp 𝕄) := by
  iintro ⟨%d, H⟩
  rw [h d]; iexact H
theorem stg_any (c : Dev nD) (b : Ref sig .tc) {D : Type} (X : D → b.ty.Contents (Elt F)) :
    iprop(∃ d, stg c b (X d)) ⊢ (some' (F := F) c b : sProp 𝕄) := by
  iintro ⟨%d, H⟩
  iapply (stg_free c b (X d)); iexact H

/-- From what the launch gives to what the body starts from. -/
theorem pre_body (c : Dev nD) : pre m ρ c ⊢ iprop(∃ K W, bodyPre (args m ρ) K c W) := by
  unfold pre Φ₀ start G' linear
  iintro ⟨⟨⟨⟨%K, #HR, ⟨HaB, HaS, HaV⟩, HtP, HtN, Htok⟩, HcB, HcV, #Hlev⟩, Hscr⟩, Ho, H0, H1, H2, H3, H4⟩
  ihave Hs := (scratch_in c) $$ Hscr
  icases Hs with ⟨Hb, HE⟩
  ihave HC := (clock_intro (F := F) c) $$ [HaS HaV HcV]
  · isplitl [HaS]; · iexact HaS
    isplitl [HaV]; · iexact HaV
    iexact HcV
  ihave H0 := (stg_in c cc0_stg0_0 _ ((args m ρ).x c) (fun d => before_0 m ρ c d)) $$ H0
  ihave H1 := (stg_in c cc0_stg1_0 _ ((args m ρ).rw c) (fun d => before_1 m ρ c d)) $$ H1
  ihave H2 := (stg_in c cc0_stg2_0 _ ((args m ρ).idx c) (fun d => before_2 m ρ c d)) $$ H2
  ihave H3 := (stg_in c cc0_stg3_0 _ ((args m ρ).ew c) (fun d => before_3 m ρ c d)) $$ H3
  ihave H4 := (stg_any c cc0_stg4_0 _) $$ H4
  unfold Dat.owesAt Pipeline.owesWithin
  icases Ho with ⟨%W, %hW, HO⟩
  iexists K
  iexists W
  unfold bodyPre facts
  isplitr; · isplitr; · iexact HR
             iexact Hlev
  isplitl [HO]; · iexact HO
  isplitl [HtP]; · iexact HtP
  isplitl [HtN]; · iexact HtN
  isplitl [HcB]; · iexact HcB
  isplitl [HaB]; · iexact HaB
  isplitl [Htok]; · iexact Htok
  isplitl [HC]; · iexact HC
  isplitl [Hb]; · iexact Hb
  isplitl [HE]; · iexact HE
  isplitl [H0]; · iapply (stg_held c cc0_stg0_0 ((args m ρ).x c)); iexact H0
  isplitl [H1]; · iapply (stg_held c cc0_stg1_0 ((args m ρ).rw c)); iexact H1
  isplitl [H2]; · iapply (stg_held c cc0_stg2_0 ((args m ρ).idx c)); iexact H2
  isplitl [H3]; · iapply (stg_held c cc0_stg3_0 ((args m ρ).ew c)); iexact H3
  unfold free
  iapply (some_free c cc0_stg4_0); iexact H4

/-- From what the body leaves to what the launch wants back. -/
theorem body_post (c : Dev nD) : bodyPost (args m ρ) c ⊢ post m ρ c := by
  unfold bodyPost post Φ₁
  iintro ⟨⟨%W, HO⟩, Hz, Hd, Hb, HE, H0, H1, H2, H3, H4⟩
  unfold Dat.owesAt Pipeline.owesWithin
  rw [show (dats m ρ 0 c).owed t₀.succ = 0 from rfl]
  isplitl [Hz Hd Hb HE]
  · isplitl [Hb HE]
    · iapply (scratch_out c)
      isplitl [Hb]; · iexact Hb
      iexact HE
    isplitl [Hd]; · iexact Hd
    iexact Hz
  isplitl [HO]
  · iexists W
    isplitr; · ipureintro; exact fun _ _ => Or.inl trivial
    iexact HO
  isplitl [H0]; · iapply (held_stg c cc0_stg0_0 ((args m ρ).x c)); iexact H0
  isplitl [H1]; · iapply (held_stg c cc0_stg1_0 ((args m ρ).rw c)); iexact H1
  isplitl [H2]; · iapply (held_stg c cc0_stg2_0 ((args m ρ).idx c)); iexact H2
  isplitl [H3]; · iapply (held_stg c cc0_stg3_0 ((args m ρ).ew c)); iexact H3
  iapply (Entails.of_eq (owns_whole_eq c cc0_stg4_0 (outAt (args m ρ) c))); iexact H4

set_option maxRecDepth 20000 in
/-- The body meets its obligation on every core. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show pre m ρ c ⊢ wp frame (wpE (defs₀ (F := F)) 𝒱₀ c none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20) (fun _ => post m ρ c)
  iintro H
  ihave H := (pre_body m ρ c) $$ H
  icases H with ⟨%K, %W, H⟩
  iapply (sound_body (args m ρ) K c W fun _ => post m ρ c)
  isplitl [H]; · iexact H
  iintro H
  iapply (body_post m ρ c); iexact H

end Cert.Moe

end
-- ==== Proof.Run.lean ====
/-
# Every run

The launch's ghost state dealt to the devices, and the run.
-/
module

public import proofs.«01_k».proof.Proof.Launch
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.ShloMosaic.Pipeline (Dat BodyObligation cellsWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The cells of a device, besides the barrier's. -/
abbrev Cell : Type := Option (Bool × Fin 18)

theorem ownSemFacts : Pipeline.OwnSemFacts cfg0.spec osem := by decide

theorem share_eq (c : Dev nD) (w : Fin cfg0.W) : (dats m ρ 0 c).share w = fullShare := by unfold Dat.share; split <;> rfl

theorem osem_injective : Function.Injective osem := by decide
theorem kcell_injective : Function.Injective (kcell : Dev nD × Cell → GSem nD τ sig) := by
  rintro ⟨c, k⟩ ⟨c', k'⟩ h
  have h1 : c = c' := congrArg (fun g : GSem nD τ sig => g.1.1) h
  subst h1
  have h2 := congrArg Prod.snd h
  rcases k with _ | k <;> rcases k' with _ | k'
  · rfl
  · exact nomatch h2
  · exact nomatch h2
  · rw [osem_injective h2]

def cells : Finset (GSem nD τ sig) := Finset.univ.map ⟨kcell, kcell_injective⟩

/-- The duty tokens minted: two for every cell. -/
abbrev tokOf (x : (Dev nD × Cell) × Bool) : GSem nD τ sig × ℕ × Bool := (kcell x.1, 0, x.2)
theorem tokOf_injective : Function.Injective tokOf := fun x y h => by
  have h1 := kcell_injective (congrArg Prod.fst h)
  have h2 := congrArg (fun z : GSem nD τ sig × ℕ × Bool => z.2.2) h
  exact Prod.ext h1 h2
def minted : Finset (GSem nD τ sig × ℕ × Bool) := Finset.univ.map ⟨tokOf, tokOf_injective⟩

def u₀ : UU := (initOf (Pipeline.cells cfgs cellOf_inj) (Pipeline.launchToks cfgs cellOf_inj), initOf cells minted)

/-- A device's cells: its barrier's, the send cells, the receive cells. -/
theorem big_cells (Φ : Cell → sProp 𝕄) :
    bigSep Finset.univ Φ = iprop(Φ none ∗ (bigSep Finset.univ fun t => Φ (some (true, t))) ∗ bigSep Finset.univ fun t => Φ (some (false, t))) := by
  have hu : (Finset.univ : Finset Cell) = insert none (Finset.univ.map Function.Embedding.some) := by
    refine (Finset.eq_univ_of_forall fun k => ?_).symm
    rcases k with _ | k
    · exact Finset.mem_insert_self _ _
    · exact Finset.mem_insert_of_mem (Finset.mem_map.mpr ⟨k, Finset.mem_univ _, rfl⟩)
  rw [hu, big_cons (by simp), bigSep_map, bigSep_univ_prod]
  rw [bigSep_univ_eq_bigSepL [true, false] (by decide) (by decide), bigSepL_cons_cons, bigSepL_singleton]
  rfl

/-- The tokens of device `c`'s own cells. -/
def toks (c : Dev nD) : sProp 𝕄 := bigSep Finset.univ fun k : Cell => bigSep Finset.univ fun b : Bool => dutyTok ER (kcell (c, k)) 0 b

/-- What the launch deals device `c`. -/
def G (c : Dev nD) : sProp 𝕄 :=
  iprop((bigSep Finset.univ fun k : Cell => roundState ER (sched (vals (args m ρ))) (kcell (c, k)) 0)
    ∗ (bigSep Finset.univ fun k : Cell => iprop(atPos ER (kcell (c, k)) 0 ∅ 0 ∗ reached ER (kcell (c, k)) 0)) ∗ toks (F := F) c)

theorem fund_cells : BI.own (ER (initOf cells minted)) ⊢ (|==> bigSep Finset.univ (G m ρ) : sProp 𝕄) := by
  have hX (Φ : GSem nD τ sig → sProp 𝕄) : bigSep cells Φ = bigSep Finset.univ fun c : Dev nD => bigSep Finset.univ fun k : Cell => Φ (kcell (c, k)) := by
    unfold cells; rw [bigSep_map, bigSep_univ_prod]; rfl
  have hT : bigSep minted (fun x => (dutyTok ER x.1 x.2.1 x.2.2 : sProp 𝕄)) = bigSep Finset.univ fun c : Dev nD => toks c := by
    unfold minted; rw [bigSep_map, bigSep_univ_prod, bigSep_univ_prod]; rfl
  iintro HX
  imod (Rounds.fund ER (sched (vals (args m ρ))) cells minted) $$ HX with ⟨Hst, Hr, Hat, Htok⟩
  imodintro
  ihave Hst' := (Entails.of_eq (hX fun g => roundState ER (sched (vals (args m ρ))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun t => semVal (sCell t c) 0) ∗ bigSep Finset.univ fun t => semVal (vCell t c) 0) := by
  unfold Pipeline.ownSems0
  rw [bigSep_univ_prod, bigSep_univ_eq_bigSepL [true, false] (by decide) (by decide), bigSepL_cons_cons, bigSepL_singleton]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, big_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (sched (vals (args m ρ))) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched (vals (args m ρ))) (kcell (c, k)) 0)
      ⊢ (|={Set.univ}=> bigSep Finset.univ fun k : Cell => iprop(∃ κ : ℕ, cellInv ER (sched (vals (args m ρ))) κ (kcell (c, k))) : sProp 𝕄) from by
        rw [← bigSep_sep']
        exact (bigSep_mono fun k _ => (Rounds.body_intro ER (sched (vals (args m ρ))) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Of its own cells' tokens, those somebody pays with. -/
theorem toks_split (c : Dev nD) : toks (F := F) c ⊢ iprop(dutyTok ER (barCell c) 0 true ∗ dutyTok ER (barCell c) 0 false
    ∗ (bigSep Finset.univ fun t => dutyTok ER (sCell t c) 0 false) ∗ bigSep Finset.univ fun t => dutyTok ER (vCell t c) 0 false) := by
  have hb (g : GSem nD τ sig) : bigSep Finset.univ (fun b : Bool => (dutyTok ER g 0 b : sProp 𝕄)) = iprop(dutyTok ER g 0 true ∗ dutyTok ER g 0 false) := by
    rw [bigSep_univ_eq_bigSepL [true, false] (by decide) (by decide), bigSepL_cons_cons, bigSepL_singleton]; rfl
  unfold toks
  simp only [hb]
  rw [big_cells, bigSep_sep', bigSep_sep']
  iintro ⟨⟨H1, H2⟩, ⟨-, H3⟩, ⟨-, H4⟩⟩
  isplitl [H1]; · iexact H1
  isplitl [H2]; · iexact H2
  isplitl [H3]; · iexact H3
  iexact H4

/-- A transfer and its sender, as the transfer and its receiver. -/
def hop : Dev nD × Fin 18 ≃ Dev nD × Fin 18 where
  toFun p := (tgt p.2 p.1, p.2)
  invFun p := (frm p.2 p.1, p.2)
  left_inv p := Prod.ext (frm_tgt p.2 p.1) rfl
  right_inv p := Prod.ext (tgt_frm p.2 p.1) rfl

theorem big_hop (Φ : Fin 18 → Dev nD → sProp 𝕄) :
    (bigSep Finset.univ fun c : Dev nD => bigSep Finset.univ fun t => Φ t c) = bigSep Finset.univ fun c : Dev nD => bigSep Finset.univ fun t => Φ t (tgt t c) := by
  rw [← bigSep_univ_prod (fun p : Dev nD × Fin 18 => Φ p.2 p.1), bigSep_univ_equiv hop (fun p : Dev nD × Fin 18 => Φ p.2 p.1), bigSep_univ_prod]
  rfl

/-- What a device pays with. -/
def payToks (c : Dev nD) : sProp 𝕄 :=
  iprop(dutyTok ER (barCell (prv c)) 0 true ∗ dutyTok ER (barCell (nxt c)) 0 false ∗ bigSep Finset.univ fun t => tokT (F := F) t c)

theorem deal_toks : iprop((bigSep Finset.univ fun c : Dev nD => (dutyTok ER (barCell c) 0 true : sProp 𝕄)) ∗ (bigSep Finset.univ fun c : Dev nD => dutyTok ER (barCell c) 0 false)
      ∗ (bigSep Finset.univ fun c : Dev nD => bigSep Finset.univ fun t => dutyTok ER (sCell t c) 0 false)
      ∗ bigSep Finset.univ fun c : Dev nD => bigSep Finset.univ fun t => dutyTok ER (vCell t c) 0 false) ⊢ bigSep Finset.univ fun c : Dev nD => (payToks c : sProp 𝕄) := by
  unfold payToks tokT
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    big_hop (fun t c => (dutyTok ER (vCell t c) 0 false : sProp 𝕄))]
  exact Entails.refl _

/-- The tokens handed to the devices that pay with them. -/
theorem toks_around : (bigSep Finset.univ fun c : Dev nD => (toks c : sProp 𝕄)) ⊢ bigSep Finset.univ fun c : Dev nD => payToks c := by
  refine (bigSep_mono fun c _ => toks_split c).trans ?_
  rw [bigSep_sep', bigSep_sep', bigSep_sep']
  exact deal_toks

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Cell → ℕ) (c : Dev nD) :
    iprop(records (vals (args m ρ)) K ∗ ((bigSep Finset.univ fun k : Cell => atPos ER (kcell (c, k)) 0 ∅ 0) ∗ payToks c)) ⊢ G' m ρ c := by
  unfold G' linear payToks
  rw [big_cells]
  iintro ⟨#HR, Hat, Htok⟩
  iexists K
  isplitr; · iexact HR
  isplitl [Hat]; · iexact Hat
  iexact Htok

theorem regroup :
    (bigSep Finset.univ fun c : Dev nD => iprop((bigSep Finset.univ fun k : Cell => iprop(∃ κ : ℕ, cellInv ER (sched (vals (args m ρ))) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (sched (vals (args m ρ))) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched (vals (args m ρ))) κ (kcell ck) : sProp 𝕄))) $$ HI
  icases HK with ⟨%K, #HI⟩
  ihave Htk := (toks_around (F := F)) $$ Htok
  iapply (with_persistent (R := records (vals (args m ρ)) K) fun c _ => deal m ρ K c)
  isplitr
  · unfold records; isplitl; · iexact HI
    iexact HR
  · iapply (Entails.of_eq (bigSep_sep' Finset.univ (fun c : Dev nD => bigSep Finset.univ fun k : Cell => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- The launch's credit: two units at the barrier cell, every transfer's at its receive cell. -/
theorem creds (c : Dev nD) :
    (Pipeline.launchCred O₀ c : sProp 𝕄) ⊢ iprop(cred (tallyAt (barCell c) () 2) ∗ bigSep Finset.univ fun t => cred (tallyAt (vCell t c) () (N t))) := by
  rw [show (O₀ : Dev nD → CellTallies nD τ sig Unit)
      = fun d => (fun d => (fun d => ∑ t ∈ (Finset.univ : Finset (Fin 18)), (fun t d => tallyAt (vCell t (tgt t d)) () (N t)) t d) d + (fun d => tallyAt (barCell (nxt d)) () 1) d) d
          + (fun d => tallyAt (barCell (prv d)) () 1) d from funext fun d => by
        unfold O₀ O₁ owed; rw [show fromT 0 = (Finset.univ : Finset (Fin 18)) from by decide]]
  rw [Pipeline.launchCred_add, Pipeline.launchCred_add, Pipeline.launchCred_sum]
  iintro ⟨⟨Hv, H1⟩, H2⟩
  ihave H1 := (Pipeline.launchCred_tallyAt (Val := Elt F) (U := UU) (Name := ℕ) (Lvl := ℕ) (SemLoc.reg barS) nxt prv nxt_prv prv_nxt () 1 c) $$ H1
  ihave H2 := (Pipeline.launchCred_tallyAt (Val := Elt F) (U := UU) (Name := ℕ) (Lvl := ℕ) (SemLoc.reg barS) prv nxt prv_nxt nxt_prv () 1 c) $$ H2
  isplitl [H1 H2]
  · rw [show (2 : ℕ) = 1 + 1 from rfl, ← tallyAt_add]
    iapply (cred_add _ _).2
    isplitl [H1]; · iexact H1
    iexact H2
  · iapply (show (bigSep Finset.univ (fun t : Fin 18 => Pipeline.launchCred (fun d => tallyAt (vCell t (tgt t d)) () (N t)) c) : sProp 𝕄)
      ⊢ bigSep Finset.univ (fun t => cred (tallyAt (vCell t c) () (N t))) from
        bigSep_mono fun t _ => Pipeline.launchCred_tallyAt (SemLoc.dma (vS t)) (tgt t) (frm t) (fun c => tgt_frm t c) (fun c => frm_tgt t c) () (N t) c)
    iexact Hv

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch some'
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch some' doneT
  rw [bigSep_sep']
  iintro ⟨Hr, Hd, Hz⟩
  isplitl [Hz]; · iexact Hz
  isplitl [Hd]; · iexact Hd
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> first | rfl | decide +revert) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero every fair run ends, the arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin 5) (h : w ≠ 4) : finalA m ρ c w = (s₀ m ρ).mem ((cfg0.win w).arr.view.loc (c : Thread nD τ)) :=
  (dats (F := F) m ρ 0 c).arrAt_in w (by fin_cases w <;> first | rfl | exact absurd rfl h) _

end Cert.Moe

end
-- ==== Proof.Frames.lean ====
/-
# The frames

The two programs' runs, read at their arguments and at the kernel's result; the reference's run.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result array after the run holds what the body left in the output block. -/
theorem finalA_out (c : Dev nD) : finalA m ρ c (4 : Fin 5) = outAt (args m ρ) c := by
  have hz : (fun a => (win0_4.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  change (win0_4.blk (0 : Fin 1)).view.read (Elt F) (finalA m ρ c (4 : Fin 5)) = _
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- The rows that a device is given are its first argument. -/
theorem args_x (c : Dev nD) : (args m ρ).x c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The router's weights are the second argument. -/
theorem args_rw (c : Dev nD) : (args m ρ).rw c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The rows' experts are the third argument. -/
theorem args_idx (c : Dev nD) : (args m ρ).idx c = m ((c.tc : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _

/-- The experts' weights are the fourth argument. -/
theorem args_ew (c : Dev nD) : (args m ρ).ew c = m ((c.tc : Thread nD τ).loc main_arg3) := by
  have hz : (fun a => (win0_3.index (0 : Fin 1)) a * main_arg3.ty.shape.size a) = fun _ => 0 :=
    funext fun a => by fin_cases a <;> decide
  exact Memref.read_access_unit_zero (Elt F) main_arg3 hz (fun a => by fin_cases a <;> decide) _

/-- Every run leaves the arguments as they were and the counters at zero. -/
theorem frame_any : θ_run (Cert.KernelIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun _ h => ⟨fun c =>
    ⟨(h.1 c (0 : Fin 5)).trans (finalA_in m ρ c 0 (by decide)), (h.1 c (1 : Fin 5)).trans (finalA_in m ρ c 1 (by decide)),
      (h.1 c (2 : Fin 5)).trans (finalA_in m ρ c 2 (by decide)), (h.1 c (3 : Fin 5)).trans (finalA_in m ρ c 3 (by decide))⟩, h.2⟩)
    (run_main (F := F) m ρ)

/-- The kernel's frame over the extended reals. -/
theorem frame_ki : Cert.quiescent_KernelIdeal := fun m ρ _ => frame_any (F := Ideal) m ρ

/-- The two programs' body tables are the same. -/
theorem defs₀_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

/-- So are their tables of definitions. -/
theorem defs_same : Cert.Kernel.defs (F := F) = Cert.KernelIdeal.defs (F := F) := by
  unfold Cert.Kernel.defs Cert.KernelIdeal.defs
  rw [defs₀_same]
  rfl

/-- The kernel's frame over the machine's words: the same run. -/
theorem frame_k : Cert.quiescent_Kernel := by
  intro m ρ _
  rw [defs_same]
  exact frame_any (F := Bits) m ρ

/-- The reference's frame; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Math.lean ====
/-
# One token's mixture

The gates of a token and its mixture of two experts, over the extended reals, in the two ways in which the programs
compute them; and that these agree where the token and the router are finite and an expert is named.
-/
module

public import Idealize.ShloMosaic.PureOps.Ideal
public import Idealize.ShloMosaic.Lib.Pointwise

@[expose] public section

noncomputable section

namespace Cert.Moe.Row

open Idealize.ShloMosaic

/-! ## Sums over the extended reals -/

/-- A nonnegative real factor goes into a sum, whatever its terms. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem div_coe_coe {b : ℝ} (a : ℝ) (h : b ≠ 0) : Ideal.div (a : EReal) (b : EReal) = ((a / b : ℝ) : EReal) := by
  rw [Ideal.div_coe h, ← EReal.coe_mul, mul_one_div]

/-- The literal that a maximum starts from. -/
theorem ofBits_bot : Ideal.ofBits .f32 0xFF800000#32 = ⊥ := by simp [Ideal.ofBits, Ideal.ieee]

/-! ## The two computations -/

variable (x : Fin 512 → EReal) (R : Fin 512 → Fin 16 → EReal) (W : Fin 16 → Fin 512 → EReal) (i₀ i₁ : BitVec 32)

/-- The router's scores of a token. -/
def score (e : Fin 16) : EReal := ∑ k, x k * R k e
/-- Their exponentials, below the greatest. -/
def pex (e : Fin 16) : EReal :=
  Ideal.exp (score x R e - Finset.univ.fold max (Ideal.ofBits .f32 0xFF800000#32) (score x R))
/-- A number kept where the expert is the one named, as the kernel writes it. -/
def keep (i : BitVec 32) (e : Fin 16) (a : EReal) : EReal := Scalar.select (IntOp.cmpi .eq (BitVec.ofNat 32 e.val) i) a 0
/-- The kernel's gates. -/
def gate (e : Fin 16) : EReal :=
  Ideal.div (keep i₀ e (∑ f, keep i₀ f (pex x R f)) + keep i₁ e (∑ f, keep i₁ f (pex x R f)))
    (∑ f, keep i₀ f (pex x R f) + ∑ f, keep i₁ f (pex x R f))
/-- The kernel's mixture: the token times each gate, times that expert. -/
def mix : EReal := ∑ e, ∑ k, (x k * gate x R i₀ i₁ e) * W e k

/-- The reference's probabilities, -/
def prob (e : Fin 16) : EReal := Ideal.div (pex x R e) (∑ f, pex x R f)
/-- a row of a one-hot array, -/
def hot (i : BitVec 32) (e : Fin 16) : EReal := FloatOps.uitofp (F := Ideal) .f32 (IntOp.cmpi .eq i (BitVec.ofNat 32 e.val))
/-- the probability of the expert named, -/
def pick (i : BitVec 32) : EReal := ∑ e, prob x R e * hot i e
/-- that expert's answer, -/
def answer (i : BitVec 32) : EReal := ∑ e, hot i e * ∑ k, x k * W e k
/-- and the mixture. -/
def plain : EReal :=
  Ideal.div (pick x R i₀) (pick x R i₀ + pick x R i₁) * answer x W i₀
    + Ideal.div (pick x R i₁) (pick x R i₀ + pick x R i₁) * answer x W i₁

/-! ## They agree -/

/-- One where the expert is the one named, else zero. -/
def hit (i : BitVec 32) (e : Fin 16) : ℝ := if i = BitVec.ofNat 32 e.val then 1 else 0

theorem hit_nonneg (i : BitVec 32) (e : Fin 16) : 0 ≤ hit i e := by unfold hit; split <;> norm_num

theorem hot_eq (i : BitVec 32) (e : Fin 16) : hot i e = (hit i e : EReal) := by
  unfold hot hit
  show (((IntOp.cmpi .eq i (BitVec.ofNat 32 e.val)).toNat : ℝ) : EReal) = _
  by_cases h : i = BitVec.ofNat 32 e.val
  · simp [IntOp.cmpi, h]
  · simp [IntOp.cmpi, h]

theorem keep_eq (i : BitVec 32) (e : Fin 16) (a : ℝ) : keep i e (a : EReal) = ((hit i e * a : ℝ) : EReal) := by
  unfold keep hit
  by_cases h : i = BitVec.ofNat 32 e.val
  · simp [IntOp.cmpi, h, Scalar.select]
  · have hb : (BitVec.ofNat 32 e.val == i) = false := beq_eq_false_iff_ne.mpr (Ne.symm h)
    simp [IntOp.cmpi, h, hb, Scalar.select]

/-- The exponentials of finite scores are positive reals. -/
theorem pex_real (hx : ∀ k, ∃ r : ℝ, x k = r) (hR : ∀ k e, ∃ r : ℝ, R k e = r) :
    ∃ p : Fin 16 → ℝ, (∀ e, 0 < p e) ∧ ∀ e, pex x R e = (p e : EReal) := by
  choose xr hxr using hx
  choose Rr hRr using hR
  have hs : ∀ e, score x R e = ((∑ k, xr k * Rr k e : ℝ) : EReal) := fun e => by
    unfold score
    rw [coe_sum]
    exact Finset.sum_congr rfl fun k _ => by rw [hxr, hRr, EReal.coe_mul]
  obtain ⟨M, hM⟩ : ∃ M : ℝ, Finset.univ.fold max (Ideal.ofBits .f32 0xFF800000#32) (score x R) = (M : EReal) := by
    have hfold : Finset.univ.fold max (Ideal.ofBits .f32 0xFF800000#32) (score x R) = Finset.univ.sup (score x R) := by
      rw [ofBits_bot]; rfl
    obtain ⟨e, -, he⟩ := Finset.exists_mem_eq_sup Finset.univ ⟨(0 : Fin 16), Finset.mem_univ _⟩ (score x R)
    exact ⟨_, by rw [hfold, he, hs e]⟩
  refine ⟨fun e => Real.exp (∑ k, xr k * Rr k e - M), fun e => Real.exp_pos _, fun e => ?_⟩
  unfold pex
  rw [hM, hs e, ← EReal.coe_sub, Ideal.exp_coe]

/-- **A token's mixture**: the kernel's gates over the sixteen experts give what the reference's two picks do. -/
theorem mix_eq (hx : ∀ k, ∃ r : ℝ, x k = r) (hR : ∀ k e, ∃ r : ℝ, R k e = r)
    (hi : ∃ e : Fin 16, i₀ = BitVec.ofNat 32 e.val ∨ i₁ = BitVec.ofNat 32 e.val) :
    mix x R W i₀ i₁ = plain x R W i₀ i₁ := by
  obtain ⟨p, hp, hpe⟩ := pex_real x R hx hR
  -- the sums that the gates are made of
  set S : ℝ := ∑ e, p e with hS
  set g : BitVec 32 → ℝ := fun i => ∑ e, hit i e * p e with hg
  have hSpos : 0 < S := Finset.sum_pos (fun e _ => hp e) ⟨0, Finset.mem_univ _⟩
  have hgn : ∀ i, 0 ≤ g i := fun i => Finset.sum_nonneg fun e _ => mul_nonneg (hit_nonneg i e) (hp e).le
  have hgp : ∀ i (e : Fin 16), i = BitVec.ofNat 32 e.val → 0 < g i := fun i e h =>
    lt_of_lt_of_le (by rw [hit, if_pos h, one_mul]; exact hp e)
      (Finset.single_le_sum (f := fun e => hit i e * p e) (fun e _ => mul_nonneg (hit_nonneg i e) (hp e).le) (Finset.mem_univ e))
  have hT : 0 < g i₀ + g i₁ := by
    obtain ⟨e, h | h⟩ := hi
    · exact add_pos_of_pos_of_nonneg (hgp _ e h) (hgn _)
    · exact add_pos_of_nonneg_of_pos (hgn _) (hgp _ e h)
  have hkeep : ∀ i, ∑ f, keep i f (pex x R f) = (g i : EReal) := fun i => by
    rw [hg, coe_sum]
    exact Finset.sum_congr rfl fun f _ => by rw [hpe, keep_eq]
  have hpick : ∀ i, pick x R i = ((g i / S : ℝ) : EReal) := fun i => by
    have hs : ∑ f, pex x R f = (S : EReal) := by
      rw [hS, coe_sum]; exact Finset.sum_congr rfl fun f _ => hpe f
    unfold pick prob
    rw [hg]
    dsimp only
    rw [Finset.sum_div, coe_sum]
    refine Finset.sum_congr rfl fun e _ => ?_
    rw [hs, hpe, div_coe_coe _ hSpos.ne', hot_eq, ← EReal.coe_mul]
    congr 1
    ring
  have hgate : ∀ e, gate x R i₀ i₁ e = ((g i₀ / (g i₀ + g i₁) * hit i₀ e + g i₁ / (g i₀ + g i₁) * hit i₁ e : ℝ) : EReal) := fun e => by
    unfold gate
    rw [hkeep, hkeep, keep_eq, keep_eq, ← EReal.coe_add, ← EReal.coe_add, div_coe_coe _ hT.ne']
    congr 1
    ring
  have hratio : ∀ i, Ideal.div (pick x R i) (pick x R i₀ + pick x R i₁) = ((g i / (g i₀ + g i₁) : ℝ) : EReal) := fun i => by
    rw [hpick, hpick, hpick, ← EReal.coe_add, ← add_div, div_coe_coe _ (div_pos hT hSpos).ne']
    congr 1
    field_simp
  -- the two weights
  have hr : ∀ i, 0 ≤ g i / (g i₀ + g i₁) := fun i => div_nonneg (hgn i) hT.le
  unfold plain mix answer
  rw [hratio, hratio, coe_mul_sum _ (hr i₀), coe_mul_sum _ (hr i₁), ← Finset.sum_add_distrib]
  refine Finset.sum_congr rfl fun e _ => ?_
  have h0 := mul_nonneg (hr i₀) (hit_nonneg i₀ e)
  have h1 := mul_nonneg (hr i₁) (hit_nonneg i₁ e)
  rw [hot_eq, hot_eq, ← mul_assoc, ← mul_assoc, ← EReal.coe_mul, ← EReal.coe_mul,
    ← EReal.right_distrib_of_nonneg (EReal.coe_nonneg.mpr h0) (EReal.coe_nonneg.mpr h1), ← EReal.coe_add, ← hgate,
    hgate, coe_mul_sum _ (add_nonneg h0 h1)]
  exact Finset.sum_congr rfl fun k _ => by rw [mul_comm (x k), mul_assoc]

end Cert.Moe.Row

end
-- ==== Proof.Elem.lean ====
/-
# The kernel's values at an element

What each block that a device computes, sends or receives holds at a row and a column, over the extended reals.
-/
module

public import proofs.«01_k».proof.Proof.Values
public import proofs.«01_k».proof.Proof.Math

@[expose] public section

noncomputable section

namespace Cert.Moe

open Cert.KernelIdeal Cert.KernelIdeal.Gen
open Idealize.ShloMosaic Idealize.ShloMosaic.TcCoe

variable (A : In Ideal) (c : Dev nD)

/-- A token of a device, -/
def tok (i : Fin 1024) (k : Fin 512) : EReal := A.x c (ix2 i k)
/-- the router, -/
def rtr (k : Fin 512) (e : Fin 16) : EReal := A.rw c (ix2 k e)
/-- and the gates of that token. -/
def gates (i : Fin 1024) : Fin 16 → EReal := Row.gate (tok A c i) (rtr A c) (A.idx c (ix2 i 0)) (A.idx c (ix2 i 1))

/-- A row of the upper half, and of the lower. -/
def up (i : Fin 512) : Fin 1024 := ⟨i.val, by omega⟩
def lo (i : Fin 512) : Fin 1024 := ⟨512 + i.val, by omega⟩

theorem col0_apply (i : Fin 1024) : col0 A c (ix2 i 0) = A.idx c (ix2 i 0) := by
  refine congrArg (A.idx c) (funext fun a => ?_)
  fin_cases a <;> exact Fin.ext ((Rect.emb_apply _ _ _).trans (by simp [Rect.unit, ix2, ix3]))
theorem col1_apply (i : Fin 1024) : col1 A c (ix2 i 0) = A.idx c (ix2 i 1) := by
  refine congrArg (A.idx c) (funext fun a => ?_)
  fin_cases a <;> exact Fin.ext ((Rect.emb_apply _ _ _).trans (by simp [Rect.unit, ix2, ix3]))

/-- The exponentials. -/
theorem v22_apply (i : Fin 1024) (e : Fin 16) : v22 A c (ix2 i e) = Row.pex (tok A c i) (rtr A c) e := by
  pointwise [v22, k0_pay2]
  rfl

theorem wr_apply (i : Fin 512) (e : Fin 16) : wr A c (ix3 0 i e) = gates A c (up i) e := by
  pointwise [wr, k0_pay9, k0_pay5, v27, v29, v30, k0_pay3, k0_pay4]
  simp only [v22_apply, col0_apply, col1_apply]
  rfl
theorem wl_apply (i : Fin 512) (e : Fin 16) : wl A c (ix3 0 i e) = gates A c (lo i) e := by
  pointwise [wl, k0_pay11, v67, k0_pay10, k0_pay5, v27, v29, v30, k0_pay3, k0_pay4]
  simp only [v22_apply, col0_apply, col1_apply]
  rfl
theorem xr_apply (i : Fin 512) (k : Fin 512) : xr A c (ix3 0 i k) = tok A c (up i) k := by
  pointwise [xr, k0_pay7, k0_pay6]
  rfl
theorem xl_apply (i : Fin 512) (k : Fin 512) : xl A c (ix3 0 i k) = tok A c (lo i) k := by
  pointwise [xl, k0_pay8, k0_pay6]
  rfl

theorem ewb_eq : ewb A c = fun j => A.ew c j := by
  funext j
  pointwise [ewb, k0_pay12]
/-- The number of a device's `l`-th expert. -/
def own (c : Dev nD) (l : Fin 4) : Fin 16 := ⟨4 * c.val + l.val, by have : c.val < 4 := c.isLt; have := l.isLt; omega⟩

theorem eb0_apply (k : Fin 512) (h : Fin 1024) : eb0 A c (ix3 0 k h) = A.ew c (ix3 0 k h) := by
  unfold eb0
  rw [ewb_eq]
  refine congrArg (A.ew c) (funext fun a => ?_)
  fin_cases a <;> exact Fin.ext ((Rect.emb_apply _ _ _).trans (by simp [Rect.unit, ix2, ix3]))
theorem eb1_apply (k : Fin 512) (h : Fin 1024) : eb1 A c (ix3 0 k h) = A.ew c (ix3 1 k h) := by
  unfold eb1
  rw [ewb_eq]
  refine congrArg (A.ew c) (funext fun a => ?_)
  fin_cases a <;> exact Fin.ext ((Rect.emb_apply _ _ _).trans (by simp [Rect.unit, ix2, ix3]))
theorem eb2_apply (k : Fin 512) (h : Fin 1024) : eb2 A c (ix3 0 k h) = A.ew c (ix3 2 k h) := by
  unfold eb2
  rw [ewb_eq]
  refine congrArg (A.ew c) (funext fun a => ?_)
  fin_cases a <;> exact Fin.ext ((Rect.emb_apply _ _ _).trans (by simp [Rect.unit, ix2, ix3]))
theorem eb3_apply (k : Fin 512) (h : Fin 1024) : eb3 A c (ix3 0 k h) = A.ew c (ix3 3 k h) := by
  unfold eb3
  rw [ewb_eq]
  refine congrArg (A.ew c) (funext fun a => ?_)
  fin_cases a <;> exact Fin.ext ((Rect.emb_apply _ _ _).trans (by simp [Rect.unit, ix2, ix3]))

/-- An expert's number as the kernel computes it. -/
theorem own_word (l : Fin 4) : Scalar.addi (Scalar.muli (v2 c) 4#32) (BitVec.ofNat 32 l.val) = BitVec.ofNat 32 (own c l).val := by
  revert c l; decide

/-- The kernel reads a gate by a sum over the experts, of which one term stays. -/
theorem gate_sum (f : Fin 16 → EReal) (l : Fin 4) :
    ∑ x : Fin 16, Scalar.select (IntOp.cmpi .eq (BitVec.ofNat 32 x.val) (Scalar.addi (Scalar.muli (v2 c) 4#32) (BitVec.ofNat 32 l.val))) (f x) 0
      = f (own c l) := by
  rw [own_word, Finset.sum_eq_single (own c l)]
  · simp [IntOp.cmpi, Scalar.select]
  · intro x _ hx
    have hb : (BitVec.ofNat 32 x.val == BitVec.ofNat 32 (own c l).val) = false := by
      refine beq_eq_false_iff_ne.mpr fun h => hx (Fin.ext ?_)
      have := congrArg BitVec.toNat h
      simp only [BitVec.toNat_ofNat] at this
      have := x.isLt; have := (own c l).isLt
      omega
    simp [IntOp.cmpi, Scalar.select, hb]
  · exact fun h => absurd (Finset.mem_univ _) h

theorem gate_sum0 (f : Fin 16 → EReal) :
    ∑ x : Fin 16, Scalar.select (IntOp.cmpi .eq (BitVec.ofNat 32 x.val) (Scalar.addi (Scalar.muli (v2 c) 4#32) 0#32)) (f x) 0 = f (own c 0) :=
  gate_sum c f 0
theorem gate_sum1 (f : Fin 16 → EReal) :
    ∑ x : Fin 16, Scalar.select (IntOp.cmpi .eq (BitVec.ofNat 32 x.val) (Scalar.addi (Scalar.muli (v2 c) 4#32) 1#32)) (f x) 0 = f (own c 1) :=
  gate_sum c f 1
theorem gate_sum2 (f : Fin 16 → EReal) :
    ∑ x : Fin 16, Scalar.select (IntOp.cmpi .eq (BitVec.ofNat 32 x.val) (Scalar.addi (Scalar.muli (v2 c) 4#32) 2#32)) (f x) 0 = f (own c 2) :=
  gate_sum c f 2
theorem gate_sum3 (f : Fin 16 → EReal) :
    ∑ x : Fin 16, Scalar.select (IntOp.cmpi .eq (BitVec.ofNat 32 x.val) (Scalar.addi (Scalar.muli (v2 c) 4#32) 3#32)) (f x) 0 = f (own c 3) :=
  gate_sum c f 3

/-- What a device's four experts give of a token with these gates. -/
def part (x : Fin 512 → EReal) (w : Fin 16 → EReal) (h : Fin 1024) : EReal :=
  ∑ l : Fin 4, ∑ k : Fin 512, (x k * w (own c l)) * A.ew c (ix3 l k h)

/-- The same for row `i` of the half that goes right, of device `s`, -/
def partR (s : Dev nD) (i : Fin 512) (h : Fin 1024) : EReal := part A c (tok A s (up i)) (gates A s (up i)) h
/-- and of the half that goes left. -/
def partL (s : Dev nD) (i : Fin 512) (h : Fin 1024) : EReal := part A c (tok A s (lo i)) (gates A s (lo i)) h

variable (i : Fin 512) (h : Fin 1024)

theorem v180_apply : v180 A c (ix2 i h) = partR A c (back 0 c) i h := by
  pointwise [v180, v165, v119, v121, v125, v126, v77, k0_pay13, k0_pay14, k0_pay15, k0_pay16, k0_pay17, k0_pay18]
  simp only [gate_sum0, gate_sum1, gate_sum2, gate_sum3, wr_apply, xr_apply, eb0_apply, eb1_apply, eb2_apply, eb3_apply]
  simp only [partR, part, Fin.sum_univ_four]
theorem v243_apply : v243 A c (ix2 i h) = partL A c (fore 0 c) i h := by
  pointwise [v243, v228, v239, v240, v182, v184, v198, v201, v77, k0_pay19, k0_pay20, k0_pay21, k0_pay22, k0_pay23, k0_pay24, k0_pay25]
  simp only [gate_sum0, gate_sum1, gate_sum2, gate_sum3, wl_apply, xl_apply, eb0_apply, eb1_apply, eb2_apply, eb3_apply]
  simp only [partL, part, Fin.sum_univ_four]
theorem sr0_apply : sr0 A c (ix3 0 i h) = partR A c (back 1 c) i h := by
  pointwise [sr0, v292, v293, v295, v324, v330, v77, k0_pay26, k0_pay27, k0_pay28, k0_pay29, k0_pay30]
  simp only [gate_sum0, gate_sum1, gate_sum2, gate_sum3, wr_apply, xr_apply, eb0_apply, eb1_apply, eb2_apply, eb3_apply]
  simp only [partR, part, Fin.sum_univ_four]
theorem sl0_apply : sl0 A c (ix3 0 i h) = partL A c (fore 1 c) i h := by
  pointwise [sl0, v418, v420, v449, v453, cst_347, v77, k0_pay31, k0_pay32, k0_pay33, k0_pay34, k0_pay35]
  simp only [gate_sum0, gate_sum1, gate_sum2, gate_sum3, wl_apply, xl_apply, eb0_apply, eb1_apply, eb2_apply, eb3_apply]
  simp only [partL, part, Fin.sum_univ_four]
theorem v604_apply : v604 A c (ix2 i h) = partR A c (back 2 c) i h := by
  pointwise [v604, v543, v545, v574, v577, v77, k0_pay36, k0_pay37, k0_pay38, k0_pay39, k0_pay40]
  simp only [gate_sum0, gate_sum1, gate_sum2, gate_sum3, wr_apply, xr_apply, eb0_apply, eb1_apply, eb2_apply, eb3_apply]
  simp only [partR, part, Fin.sum_univ_four]
theorem v747_apply : v747 A c (ix2 i h) = partL A c (fore 2 c) i h := by
  pointwise [v747, v686, v688, v692, v717, v728, v730, cst_592, v77, k0_pay42, k0_pay43, k0_pay44, k0_pay45, k0_pay46, k0_pay47, k0_pay48]
  simp only [gate_sum0, gate_sum1, gate_sum2, gate_sum3, wl_apply, xl_apply, eb0_apply, eb1_apply, eb2_apply, eb3_apply]
  simp only [partL, part, Fin.sum_univ_four]
theorem v870_apply : v870 A c (ix2 i h) = partR A c (back 3 c) i h := by
  pointwise [v870, v809, v811, v813, v840, v851, v852, v77, k0_pay50, k0_pay51, k0_pay52, k0_pay53, k0_pay54]
  simp only [gate_sum0, gate_sum1, gate_sum2, gate_sum3, wr_apply, xr_apply, eb0_apply, eb1_apply, eb2_apply, eb3_apply]
  simp only [partR, part, Fin.sum_univ_four]
theorem v993_apply : v993 A c (ix2 i h) = partL A c (fore 3 c) i h := by
  pointwise [v993, v932, v934, v935, v963, v974, v77, k0_pay56, k0_pay57, k0_pay58, k0_pay59, k0_pay60]
  simp only [gate_sum0, gate_sum1, gate_sum2, gate_sum3, wl_apply, xl_apply, eb0_apply, eb1_apply, eb2_apply, eb3_apply]
  simp only [partL, part, Fin.sum_univ_four]

theorem sr1_apply : sr1 A c (ix3 0 i h) = v604 A c (ix2 i h) + sr0 A (prv c) (ix3 0 i h) := by
  pointwise [sr1, k0_pay41]
theorem sr2_apply : sr2 A c (ix3 0 i h) = v870 A c (ix2 i h) + sr1 A (prv c) (ix3 0 i h) := by
  pointwise [sr2, k0_pay55]
theorem sl1_apply : sl1 A c (ix3 0 i h) = v747 A c (ix2 i h) + sl0 A (nxt c) (ix3 0 i h) := by
  pointwise [sl1, k0_pay49]
theorem sl2_apply : sl2 A c (ix3 0 i h) = v993 A c (ix2 i h) + sl1 A (nxt c) (ix3 0 i h) := by
  pointwise [sl2, k0_pay61]

/-- Once around the ring is a sum over the devices, one way -/
theorem sum_prv (f : Dev nD → EReal) : f c + (f (prv c) + (f (prv (prv c)) + f (prv (prv (prv c))))) = ∑ d : Dev nD, f d := by
  have e : ∑ d : Dev nD, f d = f 0 + f 1 + f 2 + f 3 := Fin.sum_univ_four f
  rw [e]
  obtain h | h | h | h : c = 0 ∨ c = 1 ∨ c = 2 ∨ c = 3 := by revert c; decide
  · subst h; show f 0 + (f 3 + (f 2 + f 1)) = _; abel
  · subst h; show f 1 + (f 0 + (f 3 + f 2)) = _; abel
  · subst h; show f 2 + (f 1 + (f 0 + f 3)) = _; abel
  · subst h; show f 3 + (f 2 + (f 1 + f 0)) = _; abel
/-- and the other. -/
theorem sum_nxt (f : Dev nD → EReal) : f c + (f (nxt c) + (f (nxt (nxt c)) + f (nxt (nxt (nxt c))))) = ∑ d : Dev nD, f d := by
  have e : nxt (nxt (nxt c)) = prv c ∧ nxt (nxt c) = prv (prv c) ∧ nxt c = prv (prv (prv c)) := by revert c; decide
  rw [e.1, e.2.1, e.2.2, ← sum_prv c f]
  abel

/-- The upper half of a device's result: its tokens' parts on the four devices. -/
theorem resT_apply : resT A c (ix2 i h) = ∑ d : Dev nD, partR A d c i h := by
  have e : resT A c (ix2 i h) = v180 A c (ix2 i h) + sr2 A (prv c) (ix3 0 i h) := by pointwise [resT, k0_pay62]
  rw [e, sr2_apply, sr1_apply, v180_apply, v870_apply, v604_apply, sr0_apply]
  have b : back 0 c = c ∧ back 3 (prv c) = c ∧ back 2 (prv (prv c)) = c ∧ back 1 (prv (prv (prv c))) = c := by clear e; revert c; decide
  rw [b.1, b.2.1, b.2.2.1, b.2.2.2, sum_prv c fun d => partR A d c i h]
/-- And the lower half. -/
theorem resB_apply : resB A c (ix2 i h) = ∑ d : Dev nD, partL A d c i h := by
  have e : resB A c (ix2 i h) = v243 A c (ix2 i h) + sl2 A (nxt c) (ix3 0 i h) := by pointwise [resB, k0_pay1]
  rw [e, sl2_apply, sl1_apply, v243_apply, v993_apply, v747_apply, sl0_apply]
  have b : fore 0 c = c ∧ fore 3 (nxt c) = c ∧ fore 2 (nxt (nxt c)) = c ∧ fore 1 (nxt (nxt (nxt c))) = c := by clear e; revert c; decide
  rw [b.1, b.2.1, b.2.2.1, b.2.2.2, sum_nxt c fun d => partL A d c i h]

end Cert.Moe

end
-- ==== Proof.Algebraic.lean ====
/-
# The mixture on four devices is the mixture

Over the extended reals: the result that a device ends holding, at a row and a column, is the whole mixture of its
token over the sixteen experts of the four devices, and so that of the reference at that device's block of rows.
-/
module

public import proofs.«01_k».proof.Defs
public import proofs.«01_k».proof.Proof.Elem
public import proofs.«01_k».proof.Proof.Frames
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem

/-! ## A device's result at an element -/

section Out

variable (A : In Ideal) (c : Dev nD)

/-- A row of the result is one of its upper half or one of its lower, and either is the four devices' parts. -/
theorem out_apply (n : Fin 1024) (h : Fin 1024) :
    outAt A c (ix2 n h) = ∑ d : Dev nD, part A d (tok A c n) (gates A c n) h := by
  by_cases hn : n.val < 512
  · obtain ⟨i, rfl⟩ : ∃ i : Fin 512, n = up i := ⟨⟨n.val, hn⟩, rfl⟩
    have e : (half 0).emb (ix2 i h) = ix2 (up i) h := by
      funext a
      fin_cases a <;> exact Fin.ext ((Rect.emb_apply _ _ _).trans (by simp [half, Rect.unit, ix2, up]))
    have := Rect.glue_emb half half_cover half_disjoint (halves A c) 0 (ix2 i h)
    rw [e] at this
    exact this.trans (resT_apply A c i h)
  · obtain ⟨i, rfl⟩ : ∃ i : Fin 512, n = lo i := ⟨⟨n.val - 512, by omega⟩, Fin.ext (by show n.val = 512 + (n.val - 512); omega)⟩
    have e : (half 1).emb (ix2 i h) = ix2 (lo i) h := by
      funext a
      fin_cases a <;> exact Fin.ext ((Rect.emb_apply _ _ _).trans (by simp [half, Rect.unit, ix2, lo]))
    have := Rect.glue_emb half half_cover half_disjoint (halves A c) 1 (ix2 i h)
    rw [e] at this
    exact this.trans (resB_apply A c i h)

/-- The four devices' four experts are the sixteen. -/
theorem sum_own (f : Fin 16 → EReal) : ∑ d : Dev nD, ∑ l : Fin 4, f (own d l) = ∑ e, f e := by
  rw [← Fintype.sum_prod_type']
  refine Fintype.sum_equiv (finProdFinEquiv (m := 4) (n := 4)) _ _ fun p => congrArg f (Fin.ext ?_)
  show 4 * p.1.val + p.2.val = p.2.val + 4 * p.1.val
  omega

/-- Where the devices hold their blocks of the experts, the result is the token's mixture. -/
theorem out_mix (W : Fin 16 → Fin 512 → Fin 1024 → EReal) (hW : ∀ d l k h, A.ew d (ix3 l k h) = W (own d l) k h) (n h : Fin 1024) :
    outAt A c (ix2 n h)
      = Row.mix (tok A c n) (rtr A c) (fun e k => W e k h) (A.idx c (ix2 n 0)) (A.idx c (ix2 n 1)) := by
  rw [out_apply]
  simp only [part, hW]
  exact sum_own fun e => ∑ k, (tok A c n k * gates A c n e) * W e k h

end Out

/-! ## The reference at an element -/

set_option maxHeartbeats 4000000 in
/-- The reference's result at a row and a column. -/
theorem ref_apply (m' : (ℓ : Loc Cert.ReferenceIdeal.nD Cert.ReferenceIdeal.τ Cert.ReferenceIdeal.sig) → Buf (Elt Ideal) ℓ) (n : Fin 4096) (h : Fin 1024) :
    Cert.ReferenceIdeal.Value.res_main_v32 (F := Ideal) m' 0 (ix2 n h)
      = Row.plain (fun k => m' (((0 : Dev Cert.ReferenceIdeal.nD).tc : Thread Cert.ReferenceIdeal.nD Cert.ReferenceIdeal.τ).loc Cert.ReferenceIdeal.main_arg0) (ix2 n k))
          (fun k e => m' (((0 : Dev Cert.ReferenceIdeal.nD).tc : Thread Cert.ReferenceIdeal.nD Cert.ReferenceIdeal.τ).loc Cert.ReferenceIdeal.main_arg1) (ix2 k e))
          (fun e k => m' (((0 : Dev Cert.ReferenceIdeal.nD).tc : Thread Cert.ReferenceIdeal.nD Cert.ReferenceIdeal.τ).loc Cert.ReferenceIdeal.main_arg3) (ix3 e k h))
          (m' (((0 : Dev Cert.ReferenceIdeal.nD).tc : Thread Cert.ReferenceIdeal.nD Cert.ReferenceIdeal.τ).loc Cert.ReferenceIdeal.main_arg2) (ix2 n 0))
          (m' (((0 : Dev Cert.ReferenceIdeal.nD).tc : Thread Cert.ReferenceIdeal.nD Cert.ReferenceIdeal.τ).loc Cert.ReferenceIdeal.main_arg2) (ix2 n 1)) := by
  unfold Cert.ReferenceIdeal.Value.res_main_v32
  pointwise []
  rfl

/-! ## The precondition, read -/

/-- The predicate's side conditions, at the kernel's shapes -/
instance pre_ki : Cert.Pre_finite_and_routed_KernelIdeal.Facts := ⟨by decide, by decide, by decide, by decide, by decide⟩
/-- and at the reference's. -/
instance pre_ri : Cert.Pre_finite_and_routed_ReferenceIdeal.Facts := ⟨by decide, by decide, by decide, by decide, by decide⟩

/-- The literal that the sizes are compared with. -/
theorem ofBits_top : Ideal.ofBits .f32 0x7F800000#32 = ⊤ := by simp [Ideal.ofBits, Ideal.ieee]

/-- An extended real of finite size is a real. -/
theorem real_of_abs {a : EReal} (h : Ideal.cmp .olt (max a (-a)) (Ideal.ofBits .f32 0x7F800000#32) = 1#1) : ∃ r : ℝ, a = r := by
  rw [ofBits_top] at h
  induction a with
  | bot => simp [Ideal.cmp] at h
  | top => simp [Ideal.cmp] at h
  | coe r => exact ⟨r, rfl⟩

/-- A word in range is an expert's number. -/
theorem expert_of_word {i : BitVec 32} (h0 : IntOp.cmpi .sge i 0#32 = 1#1) (h1 : IntOp.cmpi .slt i 16#32 = 1#1) : ∃ e : Fin 16, i = BitVec.ofNat 32 e.val := by
  have hb : ∀ b : Bool, BitVec.ofBool b = 1#1 → b = true := by decide
  have l0 : BitVec.sle 0#32 i = true := hb _ h0
  have l1 : BitVec.slt i 16#32 = true := hb _ h1
  rw [BitVec.sle_iff_toInt_le] at l0
  rw [BitVec.slt_iff_toInt_lt] at l1
  rw [show (0#32 : BitVec 32).toInt = 0 from by decide] at l0
  rw [show (16#32 : BitVec 32).toInt = 16 from by decide] at l1
  have hn : i.toNat < 16 := by
    have := i.isLt
    rw [BitVec.toInt_eq_toNat_cond] at l0 l1
    split at l0 <;> omega
  exact ⟨⟨i.toNat, hn⟩, by simp⟩

/-- One of two bits, each of two bits, is one. -/
theorem bits (a b c d : BitVec 1) (h : IntOp.ori (IntOp.andi a b) (IntOp.andi c d) = 1#1) : (a = 1#1 ∧ b = 1#1) ∨ (c = 1#1 ∧ d = 1#1) := by
  revert a b c d; decide

section Pre

variable (x : FVec Ideal S1024x512 .f32) (R : FVec Ideal S512x16 .f32) (I : IVec S1024x2 32) (E : FVec Ideal S4x512x1024 .f32)

theorem pre_x (h : (Cert.Pre_finite_and_routed_KernelIdeal.fn x R I E).1 = fun _ => 1#1) (n : Fin 1024) (k : Fin 512) :
    ∃ r : ℝ, x (ix2 n k) = r := by
  have := congrFun h (ix2 n k)
  revert this
  pointwise [Cert.Pre_finite_and_routed_KernelIdeal.fn]
  exact real_of_abs

theorem pre_R (h : (Cert.Pre_finite_and_routed_KernelIdeal.fn x R I E).2.1 = fun _ => 1#1) (k : Fin 512) (e : Fin 16) :
    ∃ r : ℝ, R (ix2 k e) = r := by
  have := congrFun h (ix2 k e)
  revert this
  pointwise [Cert.Pre_finite_and_routed_KernelIdeal.fn]
  exact real_of_abs

theorem pre_I (h : (Cert.Pre_finite_and_routed_KernelIdeal.fn x R I E).2.2 = fun _ => 1#1) (n : Fin 1024) :
    ∃ e : Fin 16, I (ix2 n 0) = BitVec.ofNat 32 e.val ∨ I (ix2 n 1) = BitVec.ofNat 32 e.val := by
  have := congrFun h (ix2 n 0)
  revert this
  pointwise [Cert.Pre_finite_and_routed_KernelIdeal.fn]
  intro this
  rcases bits _ _ _ _ this with ⟨a, b⟩ | ⟨a, b⟩
  · exact (expert_of_word a b).imp fun _ => Or.inl
  · exact (expert_of_word a b).imp fun _ => Or.inr

end Pre

/-! ## The claim -/

/-- A device's `n`-th token among all. -/
def nth (c : Dev nD) (n : Fin 1024) : Fin 4096 := ⟨c.val * 1024 + n.val, by have : c.val < 4 := c.isLt; have := n.isLt; omega⟩

/-- A block of rows at an element. -/
theorem block_rows {α : Type} {w : ℕ} (c : Dev nD) (v : (⟨2, ![4096, w]⟩ : Shape).Idx → α)
    (ht : Layout.Tiles ⟨2, ![1024, w]⟩ ⟨2, ![4096, w]⟩ 0 4) (n : Fin 1024) (k : Fin w) :
    Layout.block ⟨2, ![1024, w]⟩ ⟨2, ![4096, w]⟩ 0 4 c v ht (ix2 n k) = v (ix2 (nth c n) k) := by
  rw [Layout.block_apply]
  refine congrArg v (funext fun a => ?_)
  fin_cases a <;> exact Fin.ext rfl

/-- A block of experts at an element. -/
theorem block_experts {α : Type} (c : Dev nD) (v : (⟨3, ![16, 512, 1024]⟩ : Shape).Idx → α)
    (ht : Layout.Tiles ⟨3, ![4, 512, 1024]⟩ ⟨3, ![16, 512, 1024]⟩ 0 4) (l : Fin 4) (k : Fin 512) (h : Fin 1024) :
    Layout.block ⟨3, ![4, 512, 1024]⟩ ⟨3, ![16, 512, 1024]⟩ 0 4 c v ht (ix3 l k h) = v (ix3 (own c l) k h) := by
  rw [Layout.block_apply]
  refine congrArg v (funext fun a => ?_)
  fin_cases a
  · exact Fin.ext (by show c.val * 4 + l.val = 4 * c.val + l.val; omega)
  · exact Fin.ext rfl
  · exact Fin.ext rfl

/-- The kernel's results are the reference's blocks. -/
theorem algebraic : Cert.algebraic_KernelIdeal_ReferenceIdeal_pre_finite_and_routed_KernelIdeal := by
  intro m g m' g' hp hm
  refine ⟨Cert.ReferenceIdeal.Value.res_main_v32 m' 0, ?_, ?_⟩
  · refine (θ_run Cert.KernelIdeal.defs _ _).mono (fun r h c => ?_) (run_main (F := Ideal) m g)
    refine ⟨(h.1 c (4 : Fin 5)).trans ((finalA_out m g c).trans ?_),
      (h.1 c (0 : Fin 5)).trans (finalA_in m g c 0 (by decide)), (h.1 c (1 : Fin 5)).trans (finalA_in m g c 1 (by decide)),
      (h.1 c (2 : Fin 5)).trans (finalA_in m g c 2 (by decide)), (h.1 c (3 : Fin 5)).trans (finalA_in m g c 3 (by decide))⟩
    funext j
    obtain ⟨n, k, rfl⟩ : ∃ n k, j = ix2 n k := ⟨_, _, eq_ix2 j⟩
    have ex : ∀ k, tok (args m g) c n k = m' (((0 : Dev Cert.ReferenceIdeal.nD).tc : Thread Cert.ReferenceIdeal.nD Cert.ReferenceIdeal.τ).loc Cert.ReferenceIdeal.main_arg0) (ix2 (nth c n) k) := fun k => by
      unfold tok
      rw [args_x, (hm c).1]
      exact block_rows c _ _ n k
    have eR : ∀ k e, rtr (args m g) c k e = m' (((0 : Dev Cert.ReferenceIdeal.nD).tc : Thread Cert.ReferenceIdeal.nD Cert.ReferenceIdeal.τ).loc Cert.ReferenceIdeal.main_arg1) (ix2 k e) := fun k e => by
      unfold rtr
      rw [args_rw, (hm c).2.1]
    have eI : ∀ a, (args m g).idx c (ix2 n a) = m' (((0 : Dev Cert.ReferenceIdeal.nD).tc : Thread Cert.ReferenceIdeal.nD Cert.ReferenceIdeal.τ).loc Cert.ReferenceIdeal.main_arg2) (ix2 (nth c n) a) := fun a => by
      rw [args_idx, (hm c).2.2.1]
      exact block_rows c _ _ n a
    have eW : ∀ d l k h, (args m g).ew d (ix3 l k h) = m' (((0 : Dev Cert.ReferenceIdeal.nD).tc : Thread Cert.ReferenceIdeal.nD Cert.ReferenceIdeal.τ).loc Cert.ReferenceIdeal.main_arg3) (ix3 (own d l) k h) := fun d l k h => by
      rw [args_ew, (hm d).2.2.2]
      exact block_experts d _ _ l k h
    refine (out_mix (args m g) c (fun e k h => m' (((0 : Dev Cert.ReferenceIdeal.nD).tc : Thread Cert.ReferenceIdeal.nD Cert.ReferenceIdeal.τ).loc Cert.ReferenceIdeal.main_arg3) (ix3 e k h)) eW n k).trans ?_
    refine (Row.mix_eq _ _ _ _ _ (fun k => ?_) (fun k e => ?_) ?_).trans ?_
    · unfold tok
      rw [args_x]
      exact pre_x _ _ _ _ (hp c).1 n k
    · unfold rtr
      rw [args_rw]
      exact pre_R _ _ _ _ (hp c).2.1 k e
    · rw [args_idx]
      exact pre_I _ _ _ _ (hp c).2.2 n
    · rw [show tok (args m g) c n = _ from funext ex, show rtr (args m g) c = _ from funext fun k => funext (eR k), eI, eI]
      exact (ref_apply m' (nth c n) k).symm.trans (block_rows c _ _ n k).symm
  · exact (θ_run Cert.ReferenceIdeal.defs _ _).mono (fun r h => h 0) (Cert.ReferenceIdeal.Value.run (F := Ideal) m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Moe.pre_ki, Cert.Moe.pre_ri,
  Cert.Moe.frame_k, Cert.Moe.frame_ki, fun m g _ => Cert.Moe.frame_ki m g trivial,
  Cert.Moe.frame_ri, fun m g _ => Cert.Moe.frame_ri m g trivial, trivial, Cert.Moe.algebraic⟩

end Cert.Proof

end
